-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![4096, 1]⟩ ⟨2, ![8192, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S32x128 : Shape := ⟨2, ![32, 128]⟩
abbrev S4x512x1024 : Shape := ⟨3, ![4, 512, 1024]⟩
abbrev S4 : Shape := ⟨1, ![4]⟩
abbrev S8 : Shape := ⟨1, ![8]⟩
abbrev S1 : Shape := ⟨1, ![1]⟩
abbrev S_ : Shape := ⟨0, ![]⟩
abbrev S1x512x1024 : Shape := ⟨3, ![1, 512, 1024]⟩
abbrev S512x1024 : Shape := ⟨2, ![512, 1024]⟩
abbrev S512x128 : Shape := ⟨2, ![512, 128]⟩
abbrev S128x128 : Shape := ⟨2, ![128, 128]⟩
abbrev S128 : Shape := ⟨1, ![128]⟩
abbrev S1x128 : Shape := ⟨2, ![1, 128]⟩
abbrev S4x128 : Shape := ⟨2, ![4, 128]⟩
abbrev S4096x1 : Shape := ⟨2, ![4096, 1]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S32x128, .f32⟩
  | .hbm, ⟨2, _⟩ => ⟨S4096x1, .f32⟩
  | .local _ .vmem, ⟨0, _⟩ => ⟨S32x128, .f32⟩
  | .local _ .vmem, ⟨1, _⟩ => ⟨S4x512x1024, .f32⟩
  | .local _ .vmem, ⟨2, _⟩ => ⟨S32x128, .f32⟩
  | .local _ .vmem, ⟨3, _⟩ => ⟨S32x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch2 : Ref sig .tc := ⟨.vmem, 2, rfl⟩
abbrev cc0_scratch3 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_24 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_23 : BitVec 32 := 2#32
  let v28 : BitVec 32 := Scalar.muli v2 c2_i32_23
  let v29 : BitVec 32 := Scalar.addi c0_i32_24 v28
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_25 : BitVec 32 := 1#32
  let v30 : BitVec 32 := Scalar.muli v6 c1_i32_25
  let v31 : BitVec 32 := Scalar.addi v29 v30
  v31.toNat
def k0_dev2 (d0 : Dev nD) : Nat :=
  let c0_i32_46 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_45 : BitVec 32 := 2#32
  let v74 : BitVec 32 := Scalar.muli v2 c2_i32_45
  let v75 : BitVec 32 := Scalar.addi c0_i32_46 v74
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_47 : BitVec 32 := 1#32
  let v76 : BitVec 32 := Scalar.muli v6 c1_i32_47
  let v77 : BitVec 32 := Scalar.addi v75 v76
  v77.toNat
def k0_dev3 (d0 : Dev nD) : Nat :=
  let c0_i32_77 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_76 : BitVec 32 := 2#32
  let v131 : BitVec 32 := Scalar.muli v2 c2_i32_76
  let v132 : BitVec 32 := Scalar.addi c0_i32_77 v131
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_78 : BitVec 32 := 1#32
  let v133 : BitVec 32 := Scalar.muli v6 c1_i32_78
  let v134 : BitVec 32 := Scalar.addi v132 v133
  v134.toNat
def k0_dev4 (d0 : Dev nD) : Nat :=
  let c0_i32_107 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_106 : BitVec 32 := 2#32
  let v188 : BitVec 32 := Scalar.muli v2 c2_i32_106
  let v189 : BitVec 32 := Scalar.addi c0_i32_107 v188
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_108 : BitVec 32 := 1#32
  let v190 : BitVec 32 := Scalar.muli v6 c1_i32_108
  let v191 : BitVec 32 := Scalar.addi v189 v190
  v191.toNat
def k0_dev5 (d0 : Dev nD) : Nat :=
  let c0_i32_137 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_136 : BitVec 32 := 2#32
  let v245 : BitVec 32 := Scalar.muli v2 c2_i32_136
  let v246 : BitVec 32 := Scalar.addi c0_i32_137 v245
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_138 : BitVec 32 := 1#32
  let v247 : BitVec 32 := Scalar.muli v6 c1_i32_138
  let v248 : BitVec 32 := Scalar.addi v246 v247
  v248.toNat
def k0_dev6 (d0 : Dev nD) : Nat :=
  let c0_i32_167 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_166 : BitVec 32 := 2#32
  let v302 : BitVec 32 := Scalar.muli v2 c2_i32_166
  let v303 : BitVec 32 := Scalar.addi c0_i32_167 v302
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_168 : BitVec 32 := 1#32
  let v304 : BitVec 32 := Scalar.muli v6 c1_i32_168
  let v305 : BitVec 32 := Scalar.addi v303 v304
  v305.toNat
def k0_dev7 (d0 : Dev nD) : Nat :=
  let c0_i32_191 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_190 : BitVec 32 := 2#32
  let v354 : BitVec 32 := Scalar.muli v2 c2_i32_190
  let v355 : BitVec 32 := Scalar.addi c0_i32_191 v354
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_192 : BitVec 32 := 1#32
  let v356 : BitVec 32 := Scalar.muli v6 c1_i32_192
  let v357 : BitVec 32 := Scalar.addi v355 v356
  v357.toNat
def k0_dev8 (d0 : Dev nD) : Nat :=
  let c0_i32_215 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_214 : BitVec 32 := 2#32
  let v406 : BitVec 32 := Scalar.muli v2 c2_i32_214
  let v407 : BitVec 32 := Scalar.addi c0_i32_215 v406
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_216 : BitVec 32 := 1#32
  let v408 : BitVec 32 := Scalar.muli v6 c1_i32_216
  let v409 : BitVec 32 := Scalar.addi v407 v408
  v409.toNat
def k0_dev9 (d0 : Dev nD) : Nat :=
  let c0_i32_239 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_238 : BitVec 32 := 2#32
  let v458 : BitVec 32 := Scalar.muli v2 c2_i32_238
  let v459 : BitVec 32 := Scalar.addi c0_i32_239 v458
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_240 : BitVec 32 := 1#32
  let v460 : BitVec 32 := Scalar.muli v6 c1_i32_240
  let v461 : BitVec 32 := Scalar.addi v459 v460
  v461.toNat
abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x2048 : Shape := ⟨2, ![8192, 2048]⟩
abbrev S_ : Shape := ⟨0, ![]⟩
abbrev S8192 : Shape := ⟨1, ![8192]⟩
abbrev S8192x1 : Shape := ⟨2, ![8192, 1]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S_, .f32⟩
  | .hbm, ⟨2, _⟩ => ⟨S8192, .f32⟩
  | .hbm, ⟨3, _⟩ => ⟨S8192x1, .f32⟩
  | .hbm, ⟨4, _⟩ => ⟨S_, .f32⟩
  | .hbm, ⟨5, _⟩ => ⟨S8192x1, .f32⟩
  | .hbm, ⟨6, _⟩ => ⟨S8192x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Contents.lean ====
/- The data of the run: each device's neighbour along the second mesh axis, the slices the copies move, and what every
   buffer holds once written. -/
module

public import proofs.«01_k».proof.Proof.Gen.KernelIdeal.Skeleton
public import Idealize.ShloMosaic.Lib.ValueLayout
public import Idealize.ShloMosaic.Lib.Ring

@[expose] public section

noncomputable section

namespace Cert.KernelIdeal.Mean

open Idealize.ShloMosaic Idealize.ShloMosaic.TcCoe Idealize.ShloMosaic.ValueIdx Idealize.SL.Sem
open Cert.KernelIdeal Cert.KernelIdeal.Gen

variable {F : FTy → Type} [FloatOps F]

/-! ## The neighbour -/

/-- The other device of the same mesh row. -/
def peer (c : Dev nD) : Dev nD := ⟨2 * (c.val / 2) + 1 - c.val % 2, by have h : c.val < 4 := c.isLt; show _ < 4; omega⟩

theorem peer_peer (c : Dev nD) : peer (peer c) = c := by revert c; decide

/-- The neighbour as a rearrangement of the devices. -/
def swap : Dev nD ≃ Dev nD := ⟨peer, peer, peer_peer, peer_peer⟩

/-! ## Slices -/

theorem chunk_in (k : Fin 8) : ∀ a, (![512 * k.val, 0] : Fin 2 → Nat) a + S512x1024.size a ≤ S4096x1024.size a := by
  revert k; decide
theorem slot_in (s : Fin 4) : ∀ a, (![s.val, 0, 0] : Fin 3 → Nat) a + S1x512x1024.size a ≤ S4x512x1024.size a := by
  revert s; decide
theorem rows_in (k : Fin 8) : ∀ a, (![4 * k.val, 0] : Fin 2 → Nat) a + S4x128.size a ≤ S32x128.size a := by
  revert k; decide
theorem row_in (k : Fin 8) (i : Fin 4) : ∀ a, (![4 * k.val + i.val, 0] : Fin 2 → Nat) a + S1x128.size a ≤ S32x128.size a := by
  revert k i; decide

/-- Chunk `k` of the input: 512 of its rows. -/
abbrev chunkR (k : Fin 8) : Rect S4096x1024 := Rect.unit (s := S4096x1024) ![512 * k.val, 0] S512x1024.size (chunk_in k)
/-- Slot `s` of the landing buffer. -/
abbrev slotR (s : Fin 4) : Rect S4x512x1024 := Rect.unit (s := S4x512x1024) ![s.val, 0, 0] S1x512x1024.size (slot_in s)
/-- The four rows of sums made from chunk `k`. -/
abbrev rowsR (k : Fin 8) : Rect S32x128 := Rect.unit (s := S32x128) ![4 * k.val, 0] S4x128.size (rows_in k)
/-- The `i`th of those rows. -/
abbrev rowR (k : Fin 8) (i : Fin 4) : Rect S32x128 := Rect.unit (s := S32x128) ![4 * k.val + i.val, 0] S1x128.size (row_in k i)

abbrev xM : Memref sig .tc .hbm S4096x1024 .f32 := Memref.whole main_arg0
abbrev bM : Memref sig .tc .vmem S4x512x1024 .f32 := Memref.whole cc0_scratch0
abbrev sM : Memref sig .tc .vmem S32x128 .f32 := Memref.whole cc0_scratch2
abbrev rM : Memref sig .tc .vmem S32x128 .f32 := Memref.whole cc0_scratch3

/-- What the local copy of chunk `k` reads, and the slot it fills. -/
abbrev chunkM (k : Fin 8) : Memref sig .tc .hbm S512x1024 .f32 := xM.slice (chunkR k) (fun _ => rfl)
abbrev slotM (s : Fin 4) : Memref sig .tc .vmem S512x1024 .f32 :=
  (bM.slice (slotR s) (fun _ => rfl)).squeeze S512x1024 squeezes_S1x512x1024_S512x1024
/-- What the remote copy of chunk `k`'s sums reads, and where it lands. -/
abbrev sendM (k : Fin 8) : Memref sig .tc .vmem S4x128 .f32 := sM.slice (rowsR k) (fun _ => rfl)
abbrev recvM (k : Fin 8) : Memref sig .tc .vmem S4x128 .f32 := rM.slice (rowsR k) (fun _ => rfl)

/-- The slot chunk `k` uses. -/
def slotOf (k : Fin 8) : Fin 4 := ⟨k.val % 4, Nat.mod_lt _ (by decide)⟩

theorem set_chunk (k : Fin 8) : (chunkM k).view.set = (chunkR k).set := View.set_slice_whole _ _
theorem set_slot (s : Fin 4) : (slotM s).view.set = (slotR s).set :=
  (View.set_reshape (v := (bM.slice (slotR s) (fun _ => rfl)).view) _).trans (View.set_slice_whole _ _)
theorem set_send (k : Fin 8) : (sendM k).view.set = (rowsR k).set := View.set_slice_whole _ _
theorem set_recv (k : Fin 8) : (recvM k).view.set = (rowsR k).set := View.set_slice_whole _ _

theorem chunks_disjoint (k k' : Fin 8) (h : k ≠ k') : Disjoint (chunkR k).set (chunkR k').set :=
  Ring.lead_disjoint (s := S4096x1024) (NB := 8) 0 512 (fun k => ![512 * k.val, 0]) S512x1024.size chunk_in (fun _ => rfl) rfl k k' h
theorem chunks_cover : Finset.univ.biUnion (fun k => (chunkR k).set) = Finset.univ :=
  Ring.lead_cover (s := S4096x1024) (NB := 8) 0 512 (fun k => ![512 * k.val, 0]) S512x1024.size chunk_in (fun _ => rfl)
    (fun k a h => by match a, h with | ⟨1, _⟩, _ => rfl) rfl (fun a h => by match a, h with | ⟨1, _⟩, _ => rfl) rfl
theorem slots_disjoint (s s' : Fin 4) (h : s ≠ s') : Disjoint (slotR s).set (slotR s').set :=
  Ring.lead_disjoint (s := S4x512x1024) (NB := 4) 0 1 (fun s => ![s.val, 0, 0]) S1x512x1024.size slot_in (fun _ => (Nat.one_mul _).symm) rfl s s' h
theorem slots_cover : Finset.univ.biUnion (fun s => (slotR s).set) = Finset.univ :=
  Ring.lead_cover (s := S4x512x1024) (NB := 4) 0 1 (fun s => ![s.val, 0, 0]) S1x512x1024.size slot_in (fun _ => (Nat.one_mul _).symm)
    (fun k a h => by match a, h with | ⟨1, _⟩, _ => rfl | ⟨2, _⟩, _ => rfl) rfl
    (fun a h => by match a, h with | ⟨1, _⟩, _ => rfl | ⟨2, _⟩, _ => rfl) rfl
theorem rows_disjoint (k k' : Fin 8) (h : k ≠ k') : Disjoint (rowsR k).set (rowsR k').set :=
  Ring.lead_disjoint (s := S32x128) (NB := 8) 0 4 (fun k => ![4 * k.val, 0]) S4x128.size rows_in (fun _ => rfl) rfl k k' h
theorem rows_cover : Finset.univ.biUnion (fun k => (rowsR k).set) = Finset.univ :=
  Ring.lead_cover (s := S32x128) (NB := 8) 0 4 (fun k => ![4 * k.val, 0]) S4x128.size rows_in (fun _ => rfl)
    (fun k a h => by match a, h with | ⟨1, _⟩, _ => rfl) rfl (fun a h => by match a, h with | ⟨1, _⟩, _ => rfl) rfl

/-! ## What the buffers hold -/

variable (m : (ℓ : Loc nD τ sig) → Buf (Elt F) ℓ)

/-- A device's block of the input. -/
abbrev xs (c : Dev nD) : S4096x1024.Idx → Elt F .f32 := m ((c : Thread nD τ).loc main_arg0)

/-- Chunk `k` of it as it is read back from its slot. -/
def chunk (c : Dev nD) (k : Fin 8) : Vec F S1x512x1024 .f32 :=
  fun i => (chunkM k).view.read (Elt F) (xs m c) (ix2 (n0 := 512) (n1 := 1024) (i 1) (i 2))

/-- The landing buffer's contents over the slot chunk `k` has filled. -/
def bufC (c : Dev nD) (k : Fin 8) : S4x512x1024.Idx → Elt F .f32 :=
  fun i => (chunkM k).view.read (Elt F) (xs m c) (ix2 (n0 := 512) (n1 := 1024) (i 1) (i 2))

/-- One row of sums of a chunk: of its rows `128 i` to `128 i + 127`. -/
def rowOf (i : Fin 4) (v : Vec F S1x512x1024 .f32) : Vec F S1x128 .f32 :=
  match i with
  | ⟨0, _⟩ => k0_pay2 v
  | ⟨1, _⟩ => k0_pay4 (k0_pay3 v)
  | ⟨2, _⟩ => k0_pay5 (k0_pay1 v)
  | ⟨3, _⟩ => k0_pay6 (k0_pay1 v)

/-- A device's own row sums: row `4 k + i` is row `i` of chunk `k`. -/
def part (c : Dev nD) : S32x128.Idx → Elt F .f32 := fun j =>
  rowOf (F := F) ⟨(j 0).val % 4, Nat.mod_lt _ (by decide)⟩
    (chunk m c ⟨(j 0).val / 4, by have h : (j 0).val < 32 := (j 0).isLt; omega⟩) (ix2 (n0 := 1) (n1 := 128) 0 (j 1))

/-- The kernel's result: both devices' row sums added and scaled. -/
def outC (c : Dev nD) : S32x128.Idx → Elt F .f32 := k0_pay49 (F := F) (part m c) (part m (peer c))

/-! ## The copies and the loads -/

/-- An element of a slot, through the squeezed view. -/
theorem slot_emb (s : Fin 4) (a : Fin 512) (b : Fin 1024) :
    (slotM s).view.emb (ix2 a b) = (ix3 (n0 := 4) s a b : S4x512x1024.Idx) := by
  show (slotR s).emb (Shape.reshapeEquiv _ _) = _
  rw [reshapeEquiv_ix2_1ab]
  funext d
  match d with
  | ⟨0, _⟩ => exact Fin.ext (by simp [Rect.emb_apply])
  | ⟨1, _⟩ => exact Fin.ext (by simp [Rect.emb_apply])
  | ⟨2, _⟩ => exact Fin.ext (by simp [Rect.emb_apply])

/-- The local copy of chunk `k` leaves its slot at `bufC`. -/
theorem landed (c : Dev nD) (k : Fin 8) (s : Fin 4) (fd : S4x512x1024.Idx → Elt F .f32) :
    ∀ i ∈ (slotM s).view.set,
      (slotM s).view.write (Elt F) fd ((chunkM k).view.read (Elt F) (xs m c)) Finset.univ i = bufC m c k i := by
  intro i hi
  obtain ⟨z, -, rfl⟩ := Finset.mem_map.mp hi
  rw [View.write_emb_of_mem _ _ (Finset.mem_univ _)]
  obtain ⟨a, b, rfl⟩ : ∃ (a : Fin 512) (b : Fin 1024), z = ix2 a b := ⟨z 0, z 1, eq_ix2 z⟩
  show (chunkM k).view.read (Elt F) (xs m c) (ix2 a b) = _
  rw [bufC]
  rw [slot_emb]

/-- Loading a slot chunk `k` has filled reads the chunk. -/
theorem load_slot (c : Dev nD) (k : Fin 8) (s : Fin 4) :
    bM.view.readAt (Elt F) (slotR s).toLoadRect (bufC m c k) = chunk m c k := by
  funext y
  obtain ⟨z, a, b, rfl⟩ : ∃ (z : Fin 1) (a : Fin 512) (b : Fin 1024), y = ix3 z a b := ⟨y 0, y 1, y 2, eq_ix3 y⟩
  show bufC m c k ((slotR s).emb (ix3 z a b)) = _
  unfold bufC chunk
  refine congrArg _ ?_
  funext d
  match d with
  | ⟨0, _⟩ => exact Fin.ext (by simp [Rect.emb_apply])
  | ⟨1, _⟩ => exact Fin.ext (by simp [Rect.emb_apply])

/-- The remote copy of chunk `k`'s sums leaves what the sender held. -/
theorem sent (k : Fin 8) (fs fd : S32x128.Idx → Elt F .f32) :
    ∀ i ∈ (recvM k).view.set,
      (recvM k).view.write (Elt F) fd ((sendM k).view.read (Elt F) fs) Finset.univ i = fs i := by
  intro i hi
  obtain ⟨z, -, rfl⟩ := Finset.mem_map.mp hi
  rw [View.write_emb_of_mem _ _ (Finset.mem_univ _)]
  rfl

/-- After row `i` of chunk `k` is stored, the rows stored before it and that row are the device's sums. -/
theorem stored (c : Dev nD) (k : Fin 8) (i : Fin 4) (f : S32x128.Idx → Elt F .f32)
    (hf : ∀ j : S32x128.Idx, 4 * k.val ≤ (j 0).val → (j 0).val < 4 * k.val + i.val → f j = part m c j) :
    ∀ j : S32x128.Idx, 4 * k.val ≤ (j 0).val → (j 0).val < 4 * k.val + (i.val + 1) →
      (sM.access (rowR k i)).write (Elt F) f (rowOf i (chunk m c k)) Finset.univ j = part m c j := by
  intro j h1 h2
  by_cases h : (j 0).val = 4 * k.val + i.val
  · have he : j = (sM.access (rowR k i)).emb (ix2 (n0 := 1) (n1 := 128) 0 (j 1)) := by
      funext d
      match d with
      | ⟨0, _⟩ => exact Fin.ext (by show _ = 4 * k.val + i.val + 1 * 0; simpa using h)
      | ⟨1, _⟩ => exact Fin.ext (by show _ = 0 + 1 * (j 1).val; simp)
    conv_lhs => rw [he]
    rw [View.write_emb_of_mem _ _ (Finset.mem_univ _)]
    unfold part
    have hi := i.isLt
    have e1 : (⟨(j 0).val % 4, Nat.mod_lt _ (by decide)⟩ : Fin 4) = i := Fin.ext (by show (j 0).val % 4 = _; omega)
    have e2 : ∀ h', (⟨(j 0).val / 4, h'⟩ : Fin 8) = k := fun _ => Fin.ext (by show (j 0).val / 4 = _; omega)
    rw [e1, e2]
    rfl
  · rw [View.write_of_not_mem]
    · exact hf j h1 (by omega)
    · intro hm
      have hm' : j ∈ (rowR k i).set := by
        rw [← View.set_slice_whole (sig := sig) (κ := .tc) cc0_scratch2 (rowR k i)]
        exact hm
      have h0 := (Rect.mem_set_unit.mp hm') 0
      have h3 : 4 * k.val + i.val ≤ (j 0).val := h0.1
      have h4 : (j 0).val < 4 * k.val + i.val + 1 := h0.2
      omega

/-- The rows of chunk `k` are the indices between its first and its last. -/
theorem mem_rows (k : Fin 8) (j : S32x128.Idx) (h : j ∈ (rowsR k).set) :
    4 * k.val ≤ (j 0).val ∧ (j 0).val < 4 * k.val + 4 := by
  have h0 := (Rect.mem_set_unit.mp h) 0
  exact ⟨h0.1, h0.2⟩

/-- A row of chunk `k` lies among its four. -/
theorem row_sub (k : Fin 8) (i : Fin 4) : (sM.access (rowR k i)).set ⊆ (sendM k).view.set := by
  rw [set_send, View.set_slice_whole]
  intro j hj
  have h0 := (Rect.mem_set_unit.mp hj)
  refine Rect.mem_set_unit.mpr fun a => ?_
  have hi := i.isLt
  match a with
  | ⟨0, _⟩ =>
    have h1 : 4 * k.val + i.val ≤ (j 0).val := (h0 0).1
    have h2 : (j 0).val < 4 * k.val + i.val + 1 := (h0 0).2
    exact ⟨by show 4 * k.val ≤ (j 0).val; omega, by show (j 0).val < 4 * k.val + 4; omega⟩
  | ⟨1, _⟩ => exact h0 1

/-- A slot's loaded rectangle is the slot. -/
theorem slot_sub (s : Fin 4) : (bM.access (slotR s)).set ⊆ (slotM s).view.set := by
  rw [set_slot, View.set_slice_whole]

end Cert.KernelIdeal.Mean

end
-- ==== Proof.Sched.lean ====
/- The protocol: which semaphore cells are paid, how often, by how much, and what a payment hands to the waiting device. -/
module

public import proofs.«01_k».proof.Proof.Contents
public import proofs.«01_k».proof.Proof.Gen.KernelIdeal.Launch
public import Idealize.ShloMosaic.Lib.Rounds
public import Idealize.ShloMosaic.Lib.Tactic
public import Idealize.ShloMosaic.Lib.Pipeline.RegionTalk

@[expose] public section

noncomputable section

namespace Cert.KernelIdeal.Mean

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## The resource algebra: the pipeline's copy of the rounds and this protocol's -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

abbrev 𝒱₀ : Variants := Variants.none

/-! ## Cells -/

abbrev barS : Sem sig := ⟨0, by decide⟩
abbrev copyS (s : Fin 4) : DmaSem sig := ⟨1 + s.val, by have h := s.isLt; show _ < 21; omega⟩
abbrev sendS (k : Fin 8) : DmaSem sig := ⟨5 + k.val, by have h := k.isLt; show _ < 21; omega⟩
abbrev recvS (k : Fin 8) : DmaSem sig := ⟨13 + k.val, by have h := k.isLt; show _ < 21; omega⟩

abbrev barCell (c : Dev nD) : GSem nD τ sig := ((c : Thread nD τ), .reg barS)
abbrev copyCell (c : Dev nD) (s : Fin 4) : GSem nD τ sig := ((c : Thread nD τ), .dma (copyS s))
abbrev sendCell (c : Dev nD) (k : Fin 8) : GSem nD τ sig := ((c : Thread nD τ), .dma (sendS k))
abbrev recvCell (c : Dev nD) (k : Fin 8) : GSem nD τ sig := ((c : Thread nD τ), .dma (recvS k))

/-- What a semaphore is used for. -/
inductive Role : Type
  | bar
  | stage
  | copy (s : Fin 4)
  | send (k : Fin 8)
  | recv (k : Fin 8)

def role : SemLoc sig → Role
  | .reg _ => .bar
  | .dma q =>
    if h0 : q.val = 0 then .stage
    else if h1 : q.val < 5 then .copy ⟨q.val - 1, by omega⟩
    else if h2 : q.val < 13 then .send ⟨q.val - 5, by omega⟩
    else .recv ⟨q.val - 13, by have h : q.val < 21 := q.isLt; omega⟩

theorem role_copy (s : Fin 4) : role (.dma (copyS s)) = .copy s := by
  have hs := s.isLt
  dsimp only [role]
  rw [dif_neg (by show ¬ 1 + s.val = 0; omega), dif_pos (by show 1 + s.val < 5; omega)]
  exact congrArg Role.copy (Fin.ext (by show 1 + s.val - 1 = _; omega))
theorem role_send (k : Fin 8) : role (.dma (sendS k)) = .send k := by
  have hs := k.isLt
  dsimp only [role]
  rw [dif_neg (by show ¬ 5 + k.val = 0; omega), dif_neg (by show ¬ 5 + k.val < 5; omega), dif_pos (by show 5 + k.val < 13; omega)]
  exact congrArg Role.send (Fin.ext (by show 5 + k.val - 5 = _; omega))
theorem role_recv (k : Fin 8) : role (.dma (recvS k)) = .recv k := by
  have hs := k.isLt
  dsimp only [role]
  rw [dif_neg (by show ¬ 13 + k.val = 0; omega), dif_neg (by show ¬ 13 + k.val < 5; omega), dif_neg (by show ¬ 13 + k.val < 13; omega)]
  exact congrArg Role.recv (Fin.ext (by show 13 + k.val - 13 = _; omega))
theorem role_bar : role (.reg barS) = .bar := rfl

/-! ## Points-tos -/

variable (m : (ℓ : Loc nD τ sig) → Buf (Elt F) ℓ)

/-- Chunk `k` of a device's input, at what it was given. -/
def xPts (c : Dev nD) (k : Fin 8) : sProp 𝕄 :=
  (chunkM k).view.loc (c : Thread nD τ) ↦[(chunkM k).view.set]{fullShare} xs m c
/-- A slot of the landing buffer. -/
def slotPts (c : Dev nD) (s : Fin 4) (f : S4x512x1024.Idx → Elt F .f32) : sProp 𝕄 :=
  (slotM s).view.loc (c : Thread nD τ) ↦[(slotM s).view.set]{fullShare} f
/-- Chunk `k`'s rows of the buffer that is sent. -/
def sendPts (c : Dev nD) (k : Fin 8) (f : S32x128.Idx → Elt F .f32) : sProp 𝕄 :=
  (sendM k).view.loc (c : Thread nD τ) ↦[(sendM k).view.set]{fullShare} f
/-- Chunk `k`'s rows of the buffer that is received. -/
def recvPts (c : Dev nD) (k : Fin 8) (f : S32x128.Idx → Elt F .f32) : sProp 𝕄 :=
  (recvM k).view.loc (c : Thread nD τ) ↦[(recvM k).view.set]{fullShare} f

/-! ## The schedule -/

/-- The credit of a local copy and of a remote one. -/
def NC : ℕ := (slotM 0).view.dmaCredit
def NX : ℕ := (sendM 0).view.dmaCredit
theorem NC_pos : 0 < NC := by
  unfold NC; exact View.dmaCredit_pos _ (Shape.numel_pos fun a => by match a with | ⟨0, _⟩ => exact Nat.succ_pos _ | ⟨1, _⟩ => exact Nat.succ_pos _)
theorem NX_pos : 0 < NX := by
  unfold NX; exact View.dmaCredit_pos _ (Shape.numel_pos fun a => by match a with | ⟨0, _⟩ => exact Nat.succ_pos _ | ⟨1, _⟩ => exact Nat.succ_pos _)

/-- The chunk whose copy is the `r`th into slot `s`. -/
def chunkOf (s : Fin 4) (r : ℕ) : Fin 8 := ⟨(s.val + 4 * r) % 8, Nat.mod_lt _ (by decide)⟩
theorem chunkOf_slotOf (k : Fin 8) : chunkOf (slotOf k) (k.val / 4) = k := by revert k; decide

/-- With its signal the neighbour lends its receive buffer, whose cells are open. -/
def barPay (c : Dev nD) : sProp 𝕄 :=
  bigSep Finset.univ fun k : Fin 8 => iprop((∃ f, recvPts (peer c) k f) ∗ reached ER (recvCell (peer c) k) 0)
/-- A local copy gives back the chunk it read and the slot it filled. -/
def copyPay (c : Dev nD) (s : Fin 4) (k : Fin 8) : sProp 𝕄 := iprop(slotPts c s (bufC m c k) ∗ xPts m c k)

def roundsOf : Role → ℕ
  | .bar => 1
  | .stage => 0
  | .copy _ => 2
  | .send _ => 1
  | .recv _ => 1
def unitsOf : Role → ℕ
  | .bar => 1
  | .copy _ => NC
  | _ => NX
def payOf (c : Dev nD) (r : ℕ) : Role → sProp 𝕄
  | .bar => barPay c
  | .stage => iprop(emp)
  | .copy s => copyPay m c s (chunkOf s r)
  | .send k => sendPts c k (part m c)
  | .recv k => recvPts c k (part m (peer c))

def sched : Rounds.Schedule (GSem nD τ sig) Unit 𝕄 where
  duties g r := if g.1.2 = .tc ∧ r < roundsOf (role g.2) then {()} else ∅
  unitless _ := False
  amount g _ _ := unitsOf (role g.2)
  payload g r _ := payOf m g.1.1 r (role g.2)
  amount_pos g _ _ _ := by
    cases role g.2 with
    | bar => exact Nat.one_pos
    | copy _ => exact NC_pos
    | stage => exact NX_pos
    | send _ => exact NX_pos
    | recv _ => exact NX_pos

instance sched_payload_storable (g : GSem nD τ sig) (r : ℕ) (d : Unit) :
    BI.Storable (upEmb : UEmb _ 𝕄) ((sched (F := F) m).payload g r d) := by
  show BI.Storable upEmb (payOf m g.1.1 r (role g.2))
  cases role g.2 <;> simp only [payOf] <;>
    first
    | (unfold barPay; unfold recvPts; infer_instance)
    | (unfold copyPay slotPts xPts; infer_instance)
    | (unfold sendPts; infer_instance)
    | (unfold recvPts; infer_instance)
    | infer_instance

section Facts

variable (c : Dev nD)

theorem duty_of {g : GSem nD τ sig} {ro : Role} {r : ℕ} (ht : g.1.2 = .tc) (hg : role g.2 = ro) (h : r < roundsOf ro) :
    (sched (F := F) m).duties g r = {()} := by
  dsimp only [sched]; rw [hg]; exact if_pos ⟨ht, h⟩
theorem no_duty {g : GSem nD τ sig} {ro : Role} {R : ℕ} (hg : role g.2 = ro) (h : roundsOf ro ≤ R) :
    ∀ r, R ≤ r → (sched (F := F) m).duties g r = ∅ := fun r hr => by
  dsimp only [sched]; rw [hg]; exact if_neg fun h' => by omega
theorem amount_of {g : GSem nD τ sig} {ro : Role} {r : ℕ} {d : Unit} (hg : role g.2 = ro) :
    (sched (F := F) m).amount g r d = unitsOf ro := by
  dsimp only [sched]; rw [hg]
theorem expect_of {g : GSem nD τ sig} {ro : Role} {r : ℕ} (ht : g.1.2 = .tc) (hg : role g.2 = ro) (h : r < roundsOf ro) :
    (sched (F := F) m).expect g r = unitsOf ro := by
  unfold Schedule.expect Schedule.amountOf; rw [duty_of m ht hg h, Finset.sum_singleton, amount_of m hg]
theorem payload_of {g : GSem nD τ sig} {ro : Role} {r : ℕ} {d : Unit} (hg : role g.2 = ro) :
    (sched (F := F) m).payload g r d = payOf m g.1.1 r ro := by
  dsimp only [sched]; rw [hg]
theorem rest_of {g : GSem nD τ sig} {ro : Role} {r : ℕ} (ht : g.1.2 = .tc) (hg : role g.2 = ro) (h : r < roundsOf ro) :
    bigSep ((sched (F := F) m).duties g r \ ∅) (fun u => (sched (F := F) m).payload g r u) = payOf m g.1.1 r ro := by
  rw [Finset.sdiff_empty, duty_of m ht hg h, bigSep_singleton, payload_of m hg]

theorem round_lt (k : Fin 8) : k.val / 4 < roundsOf (.copy (slotOf k)) := by
  have h := k.isLt; show k.val / 4 < 2; omega
theorem copyPay_eq (k : Fin 8) :
    payOf m c (k.val / 4) (.copy (slotOf k)) = copyPay m c (slotOf k) k := by
  show copyPay m c (slotOf k) (chunkOf (slotOf k) (k.val / 4)) = _
  rw [chunkOf_slotOf]

end Facts

/-! ## What a device owes, and in which order its cells are waited on -/

/-- The credits the neighbour's receive cells still miss once the first `n` of them are paid. -/
def debt (c : Dev nD) (n : ℕ) : CellTallies nD τ sig Unit :=
  ∑ k : Fin 8, if n ≤ k.val then tallyAt (recvCell (peer c) k) () NX else 0

/-- At launch a device owes the neighbour eight copies and one signal. -/
def O₀ (c : Dev nD) : CellTallies nD τ sig Unit := debt c 0 + tallyAt (barCell (peer c)) () 1

theorem debt_step (c : Dev nD) (k : Fin 8) : debt c k.val = debt c (k.val + 1) + tallyAt (recvCell (peer c) k) () NX := by
  unfold debt
  rw [← Finset.add_sum_erase _ _ (Finset.mem_univ k), ← Finset.add_sum_erase (a := k) Finset.univ
    (fun j : Fin 8 => if k.val + 1 ≤ j.val then tallyAt (recvCell (peer c) j) () NX else 0) (Finset.mem_univ k)]
  rw [if_pos le_rfl, if_neg (by omega), zero_add, add_comm]
  refine congrArg (· + _) (Finset.sum_congr rfl fun j hj => ?_)
  have hne : j.val ≠ k.val := fun h => (Finset.mem_erase.mp hj).1 (Fin.ext h)
  by_cases h : k.val ≤ j.val
  · rw [if_pos h, if_pos (by omega)]
  · rw [if_neg h, if_neg (by omega)]

theorem debt_end (c : Dev nD) : debt c 8 = 0 := by
  unfold debt
  exact Finset.sum_eq_zero fun j _ => if_neg (by have h := j.isLt; omega)

theorem debt_pos {c : Dev nD} {n : ℕ} {g : GSem nD τ sig} {u : Unit} (h : 0 < debt c n g u) : ∃ k, g = recvCell (peer c) k := by
  by_contra hne
  have : debt c n g u = 0 := by
    unfold debt
    rw [Finset.sum_apply, Finsupp.finset_sum_apply]
    refine Finset.sum_eq_zero fun j _ => ?_
    by_cases hj : n ≤ j.val
    · rw [if_pos hj, tallyAt_apply, if_neg fun h' => hne ⟨j, h'.1⟩]
    · rw [if_neg hj]; rfl
  omega

def L (g : GSem nD τ sig) : Finset Unit := if g.1.2 = .tc then {()} else ∅
def lvOf : Role → ℕ
  | .bar => 1
  | .recv _ => 2
  | _ => 0
/-- Local copies, staging and own sends first, the barrier next, receives last. -/
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

/-- A device may wait below the receive cells while it owes remote copies. -/
theorem mayWait (c : Dev nD) (sm : SemLoc sig) (n : ℕ) (h : lvOf (role sm) ≤ 1) :
    (levAts L lv : sProp 𝕄) ⊢ MayWait (c : Thread nD τ) sm () (debt c n) :=
  MayOwe.of_cut (L := L) (lev := lv) 1 (fun p hp => by rw [Finset.mem_singleton.mp hp, L_tc]; exact Finset.mem_singleton_self _)
    (fun g u hg => by obtain ⟨k, rfl⟩ := debt_pos hg; rw [L_tc]; exact Finset.mem_singleton_self _)
    (fun p hp => by rw [Finset.mem_singleton.mp hp]; exact h)
    (fun g u hg => by
      obtain ⟨k, rfl⟩ := debt_pos hg
      show 1 < lvOf (role (.dma (recvS k)))
      rw [role_recv]; exact Nat.lt_succ_self 1)

end Cert.KernelIdeal.Mean

end
-- ==== Proof.Ops.lean ====
/- What a device holds while it runs, and each kind of step of the kernel: starting and finishing a local copy, the entry
   signal, storing a row of sums, sending a chunk's sums, and finishing a send or a receive. Stated once for every chunk. -/
module

public import proofs.«01_k».proof.Proof.Sched

@[expose] public section

noncomputable section

namespace Cert.KernelIdeal.Mean

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Credits -/

theorem credit_slot (s : Fin 4) : (slotM s).view.dmaCredit = NC := rfl
theorem credit_send (k : Fin 8) : (sendM k).view.dmaCredit = NX := rfl
theorem credit_recv (k : Fin 8) : (recvM k).view.dmaCredit = NX := rfl

/-! ## The cells' invariants -/

/-- The own cells of the kernel, four for copies, eight for sends, eight for receives. -/
abbrev ownS (i : Fin 20) : DmaSem sig := ⟨1 + i.val, by have h := i.isLt; show _ < 21; omega⟩
abbrev ownCell (c : Dev nD) (i : Fin 20) : GSem nD τ sig := ((c : Thread nD τ), .dma (ownS i))

variable (m : (ℓ : Loc nD τ sig) → Buf (Elt F) ℓ) (K : GSem nD τ sig → ℕ)

/-- Every cell's invariant, at the names they were allocated. -/
def allInvs : sProp 𝕄 :=
  iprop((bigSep Finset.univ fun c : Dev nD => cellInv ER (sched m) (K (barCell c)) (barCell c))
    ∗ bigSep Finset.univ fun p : Dev nD × Fin 20 => cellInv ER (sched m) (K (ownCell p.1 p.2)) (ownCell p.1 p.2))

/-- The invariants and the order of waiting. -/
def ctx : sProp 𝕄 := iprop(allInvs m K ∗ levAts L lv)

instance ctx_persistent : BI.Persistent (ctx m K) := by unfold ctx allInvs; infer_instance

theorem inv_bar (c : Dev nD) : ctx m K ⊢ cellInv ER (sched m) (K (barCell c)) (barCell c) := by
  unfold ctx allInvs
  iintro ⟨⟨#H, -⟩, -⟩
  iapply (show (_ : sProp 𝕄) ⊢ _ from bigSep_elim (Finset.mem_univ c) (Φ := fun c : Dev nD => cellInv ER (sched m) (K (barCell c)) (barCell c))) $$ H
theorem inv_own (c : Dev nD) (i : Fin 20) : ctx m K ⊢ cellInv ER (sched m) (K (ownCell c i)) (ownCell c i) := by
  unfold ctx allInvs
  iintro ⟨⟨-, #H⟩, -⟩
  iapply (show (_ : sProp 𝕄) ⊢ _ from bigSep_elim (Finset.mem_univ (c, i)) (Φ := fun p : Dev nD × Fin 20 => cellInv ER (sched m) (K (ownCell p.1 p.2)) (ownCell p.1 p.2))) $$ H
theorem inv_copy (c : Dev nD) (s : Fin 4) : ctx m K ⊢ cellInv ER (sched m) (K (copyCell c s)) (copyCell c s) :=
  inv_own m K c ⟨s.val, by omega⟩
theorem own_send (c : Dev nD) (k : Fin 8) : ownCell c ⟨4 + k.val, by omega⟩ = sendCell c k :=
  congrArg (fun q : DmaSem sig => (((c : Thread nD τ), .dma q) : GSem nD τ sig)) (Fin.ext (by show 1 + (4 + k.val) = 5 + k.val; omega))
theorem own_recv (c : Dev nD) (k : Fin 8) : ownCell c ⟨12 + k.val, by omega⟩ = recvCell c k :=
  congrArg (fun q : DmaSem sig => (((c : Thread nD τ), .dma q) : GSem nD τ sig)) (Fin.ext (by show 1 + (12 + k.val) = 13 + k.val; omega))
theorem inv_send (c : Dev nD) (k : Fin 8) : ctx m K ⊢ cellInv ER (sched m) (K (sendCell c k)) (sendCell c k) := by
  rw [← own_send]; exact inv_own m K c _
theorem inv_recv (c : Dev nD) (k : Fin 8) : ctx m K ⊢ cellInv ER (sched m) (K (recvCell c k)) (recvCell c k) := by
  rw [← own_recv]; exact inv_own m K c _
theorem ctx_lev : ctx m K ⊢ (levAts L lv : sProp 𝕄) := by
  unfold ctx; iintro ⟨-, H⟩; iexact H

/-! ## Holdings -/

/-- What starting chunk `k`'s copy needs besides a free slot. -/
def fetchable (c : Dev nD) (k : Fin 8) : sProp 𝕄 :=
  iprop(xPts m c k ∗ dutyTok ER (copyCell c (slotOf k)) (k.val / 4) ())
/-- Chunk `k`'s slot, free. -/
def slotFree (c : Dev nD) (k : Fin 8) : sProp 𝕄 :=
  iprop((∃ f, slotPts (F := F) c (slotOf k) f) ∗ atPos ER (copyCell c (slotOf k)) (k.val / 4) ∅ 0
    ∗ reached ER (copyCell c (slotOf k)) (k.val / 4))
/-- Chunk `k`'s copy is under way. -/
def flying (c : Dev nD) (k : Fin 8) : sProp 𝕄 :=
  iprop(cred (tallyAt (copyCell c (slotOf k)) () NC) ∗ atPos ER (copyCell c (slotOf k)) (k.val / 4) ∅ 0)
/-- Chunk `k` is in its slot. -/
def arrived (c : Dev nD) (k : Fin 8) : sProp 𝕄 :=
  iprop(slotPts c (slotOf k) (bufC m c k) ∗ atPos ER (copyCell c (slotOf k)) (k.val / 4 + 1) ∅ 0
    ∗ reached ER (copyCell c (slotOf k)) (k.val / 4 + 1))
/-- The first `i` rows of chunk `k`'s sums are stored. -/
def sums (c : Dev nD) (k : Fin 8) (i : ℕ) : sProp 𝕄 :=
  iprop(∃ f, ⌜∀ j : S32x128.Idx, 4 * k.val ≤ (j 0).val → (j 0).val < 4 * k.val + i → f j = part m c j⌝ ∗ sendPts c k f)
/-- What sending chunk `k`'s sums needs of the own cells and of the neighbour. -/
def sendable (c : Dev nD) (k : Fin 8) : sProp 𝕄 :=
  iprop(atPos ER (sendCell c k) 0 ∅ 0 ∗ reached ER (sendCell c k) 0 ∗ dutyTok ER (sendCell c k) 0 ()
    ∗ dutyTok ER (recvCell (peer c) k) 0 ())
/-- The neighbour's rows chunk `k`'s sums go to, lent. -/
def target (c : Dev nD) (k : Fin 8) : sProp 𝕄 :=
  iprop((∃ f, recvPts (F := F) (peer c) k f) ∗ reached ER (recvCell (peer c) k) 0)
/-- Chunk `k`'s send is under way. -/
def sending (c : Dev nD) (k : Fin 8) : sProp 𝕄 :=
  iprop(cred (tallyAt (sendCell c k) () NX) ∗ atPos ER (sendCell c k) 0 ∅ 0)
/-- Chunk `k`'s send is finished. -/
def sentDone (c : Dev nD) (k : Fin 8) : sProp 𝕄 :=
  iprop(sendPts c k (part m c) ∗ atPos ER (sendCell c k) 1 ∅ 0)
/-- The neighbour's sums of its chunk `k` are awaited. -/
def receiving (c : Dev nD) (k : Fin 8) : sProp 𝕄 :=
  iprop(cred (tallyAt (recvCell c k) () NX) ∗ atPos ER (recvCell c k) 0 ∅ 0)
/-- The neighbour's sums of its chunk `k` are here. -/
def received (c : Dev nD) (k : Fin 8) : sProp 𝕄 :=
  iprop(recvPts c k (part m (peer c)) ∗ atPos ER (recvCell c k) 1 ∅ 0)
/-- What a device still has to pay to others. -/
def owing (c : Dev nD) (O : CellTallies nD τ sig Unit) : sProp 𝕄 := iprop(∃ W, owes (c : Thread nD τ) O W)

/-- A slot whose chunk has been read is free for the chunk four later. -/
theorem next (c : Dev nD) (k k' : Fin 8) (h : k'.val = k.val + 4) : arrived m c k ⊢ slotFree (F := F) c k' := by
  have h1 : slotOf k' = slotOf k := Fin.ext (by show k'.val % 4 = k.val % 4; omega)
  have h2 : k'.val / 4 = k.val / 4 + 1 := by omega
  unfold arrived slotFree
  rw [h1, h2]
  iintro ⟨H, H1, H2⟩
  isplitl [H]; · iexists _; iexact H
  isplitl [H1]; · iexact H1
  iexact H2

/-- All four rows stored: the rows hold the device's sums. -/
theorem sums_done (c : Dev nD) (k : Fin 8) : sums m c k 4 ⊢ sendPts c k (part m c) := by
  unfold sums
  iintro ⟨%f, %hf, H⟩
  have e : (sendPts c k f : sProp 𝕄) = sendPts c k (part m c) := by
    unfold sendPts
    refine pointsTo_congr fun i hi => hf i ?_ ?_
    · rw [set_send] at hi; exact (mem_rows k i hi).1
    · rw [set_send] at hi; exact (mem_rows k i hi).2
  rw [← e]
  iexact H

/-! ## Steps -/

/-- The weakest precondition of a part of the kernel's text on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable {α : Type} (c : Dev nD)

/-- A part that has ended. -/
theorem ended {Q : α → sProp 𝕄} (a : α) : Q a ⊢ WP c (.ret a : Prog (TpuEff nD τ sig (Elt F) Λ₀ .tc) α) Q := by
  unfold WP
  rw [wp_ret]
  iintro H; imodintro; iexact H

/-- Starting the copy of chunk `k` into its slot. -/
theorem fetch (k : Fin 8) {src : Memref sig .tc .hbm S512x1024 .f32} {dst : Memref sig .tc .vmem S512x1024 .f32} {q : DmaSem sig}
    (hs : src = chunkM k) (hd : dst = slotM (slotOf k)) (hq : q = copyS (slotOf k))
    {h1 : src.view.WordExact} {h2 : dst.view.WordExact} {h3 : DmaTarget.Typed (nD := nD) (τ := τ) (p := .tc) .hbm (.dma q) (.here dst)}
    {kk : PUnit → Prog (TpuEff nD τ sig (Elt F) Λ₀ .tc) α} {Q : α → sProp 𝕄} :
    iprop(ctx m K ∗ fetchable m c k ∗ slotFree c k)
      ⊢ iprop((flying c k -∗ WP c (kk ⟨⟩) Q) -∗ WP c (.op (.enqueueDma src (.here dst) (.dma q) h1 h2 h3) kk) Q) := by
  subst hs hd hq
  unfold fetchable slotFree flying xPts slotPts
  iintro ⟨#HC, ⟨Hx, Ht⟩, ⟨%f, Hs⟩, Ha, Hr⟩ Hk
  iapply (Rounds.wp_copy_pointsTo 𝒱₀ ER (sched m) (c : Thread nD τ) none (src := chunkM k) (dst := slotM (slotOf k)) (sem := .dma (copyS (slotOf k)))
      (q := fullShare) (fs := xs m c) (fd := f) (r := k.val / 4) (d := ()) (κ := K (copyCell c (slotOf k)))
      (by rw [duty_of m rfl (role_copy _) (round_lt k)]; exact Finset.mem_singleton_self _) () NC (credit_slot _) (amount_of m (ro := .copy (slotOf k)) (role_copy _))
      (by
        rw [payload_of m (role_copy _), copyPay_eq]
        unfold copyPay slotPts xPts
        rw [pointsTo_congr (landed m c k (slotOf k) f)])) $$ [Hx Hs Ht Hr]
  · isplitr; · iapply (inv_copy m K c (slotOf k)) $$ HC
    isplitl [Hx]; · iexact Hx
    isplitl [Hs]; · iexact Hs
    isplitl [Ht]; · iexact Ht
    iexact Hr
  iintro H
  iapply Hk
  isplitl [H]; · iexact H
  iexact Ha

/-- Waiting for the copy of chunk `k`, while the neighbour is owed sends. -/
theorem arrive (k : Fin 8) (n : ℕ) {src : Memref sig .tc .hbm S512x1024 .f32} {dst : Memref sig .tc .vmem S512x1024 .f32} {q : DmaSem sig}
    (hd : dst.view.dmaCredit = NC) (hq : q = copyS (slotOf k))
    {h1 : src.view.WordExact} {h2 : dst.view.WordExact}
    {kk : PUnit → Prog (TpuEff nD τ sig (Elt F) Λ₀ .tc) α} {Q : α → sProp 𝕄} :
    iprop(ctx m K ∗ flying c k ∗ owing c (debt c n))
      ⊢ iprop((iprop(arrived m c k ∗ xPts m c k ∗ owing c (debt c n)) -∗ WP c (kk ⟨⟩) Q)
        -∗ WP c (.op (.waitDma2 q src dst h1 h2) kk) Q) := by
  subst hq
  unfold flying owing arrived
  iintro ⟨#HC, ⟨Hc, Ha⟩, ⟨%W, HO⟩⟩ Hk
  rw [← hd]
  iapply (Rounds.wp_wait_rest_token 𝒱₀ ER (sched m) (c : Thread nD τ) none (κ := K (copyCell c (slotOf k)))
      (wpE_waitDma2_eq (src := src) (dst := dst) 𝒱₀ (c : Thread nD τ) none Set.univ) (Set.mem_univ _) () (O := debt c n) (W := W) (R := k.val / 4) (m := 0) (T := ∅)
      ((Nat.zero_add _).trans (hd.trans (expect_of m rfl (role_copy _) (round_lt k)).symm))) $$ [Hc HO Ha]
  · isplitr; · iapply (inv_copy m K c (slotOf k)) $$ HC
    isplitl [Hc]; · iexact Hc
    isplitl [HO]; · iexact HO
    isplitr
    · iapply (mayWait c (.dma (copyS (slotOf k))) n (by rw [role_copy]; exact Nat.zero_le _))
      iapply (ctx_lev m K) $$ HC
    iexact Ha
  iintro ⟨HO, Ha, Hr, Hp⟩
  ihave Hp := (Entails.of_eq ((rest_of m (g := copyCell c (slotOf k)) rfl (role_copy _) (round_lt k)).trans (copyPay_eq m c k))) $$ Hp
  unfold copyPay
  icases Hp with ⟨Hs, Hx⟩
  iapply Hk
  isplitl [Hs Ha Hr]
  · isplitl [Hs]; · iexact Hs
    isplitl [Ha]; · iexact Ha
    iexact Hr
  isplitl [Hx]; · iexact Hx
  iexists _; iexact HO

/-- Loading the slot chunk `k` is in reads the chunk. -/
theorem load_chunk (k : Fin 8) (s : Fin 4) (hs : s = slotOf k) {hl : bM.view.LoadsAt (slotR s).toLoadRect}
    {kk : Vec F S1x512x1024 .f32 → Prog (TpuEff nD τ sig (Elt F) Λ₀ .tc) α} {Q : α → sProp 𝕄} :
    arrived m c k
      ⊢ iprop((arrived m c k -∗ WP c (kk (chunk m c k)) Q) -∗ WP c (.op (.load bM (slotR s).toLoadRect hl) kk) Q) := by
  subst hs
  unfold arrived slotPts
  iintro ⟨Hs, Hr⟩ Hk
  iapply (wp_load_rect 𝒱₀ (c : Thread nD τ) none Set.univ (m := bM) (r := slotR (slotOf k)) (f := bufC m c k) (slot_sub (slotOf k))) $$ Hs
  iintro Hs
  rw [show (bM.access (slotR (slotOf k))).read (Elt F) (bufC m c k) = chunk m c k from load_slot m c k (slotOf k)]
  iapply Hk
  isplitl [Hs]; · iexact Hs
  iexact Hr

/-- No row stored yet. -/
theorem sums_start (k : Fin 8) : iprop(∃ f, sendPts (F := F) c k f) ⊢ sums m c k 0 := by
  unfold sums
  iintro ⟨%f, H⟩
  iexists f
  isplitr; · ipureintro; intro j h1 h2; omega
  iexact H

/-- The kernel reads a row before it overwrites it; what it reads is not used. -/
theorem load_row (k : Fin 8) (i : ℕ) (r : Fin 4) {hl : sM.view.LoadsAt (rowR k r).toLoadRect}
    {kk : Vec F S1x128 .f32 → Prog (TpuEff nD τ sig (Elt F) Λ₀ .tc) α} {Q : α → sProp 𝕄} :
    sums m c k i
      ⊢ iprop((∀ w, sums m c k i -∗ WP c (kk w) Q) -∗ WP c (.op (.load sM (rowR k r).toLoadRect hl) kk) Q) := by
  unfold sums sendPts
  iintro ⟨%f, %hf, Hs⟩ Hk
  iapply (wp_load_rect 𝒱₀ (c : Thread nD τ) none Set.univ (m := sM) (r := rowR k r) (f := f) (row_sub k r)) $$ Hs
  iintro Hs
  iapply Hk
  iexists f
  isplitr; · ipureintro; exact hf
  iexact Hs

/-- Storing row `i` of chunk `k`'s sums. -/
theorem store_row (k : Fin 8) (i : Fin 4) (n n' : ℕ) (hn : n = i.val) (hn' : n' = i.val + 1) {w : Vec F S1x128 .f32} (hw : w = rowOf i (chunk m c k))
    {hx : (sM.access (rowR k i)).Stores Finset.univ} {hm : (Finset.univ : Finset (rowR k i).shape.Idx) = Finset.univ ∨ ∀ a, (rowR k i).stride a = 1}
    {kk : PUnit → Prog (TpuEff nD τ sig (Elt F) Λ₀ .tc) α} {Q : α → sProp 𝕄} :
    sums m c k n
      ⊢ iprop((sums m c k n' -∗ WP c (kk ⟨⟩) Q)
        -∗ WP c (.op (.store sM (rowR k i) w Finset.univ hx hm) kk) Q) := by
  subst hw hn hn'
  unfold sums sendPts
  iintro ⟨%f, %hf, Hs⟩ Hk
  iapply (wp_store 𝒱₀ (c : Thread nD τ) none Set.univ (m := sM) (r := rowR k i) (f := f)
    (by rw [View.setOn_univ]; exact row_sub k i)) $$ Hs
  iintro Hs
  iapply Hk
  iexists _
  isplitr; · ipureintro; exact stored m c k i f hf
  iexact Hs

/-- Sending chunk `k`'s sums to the neighbour. -/
theorem xfer (k : Fin 8) (n n' : ℕ) (hn : n = k.val) (hn' : n' = k.val + 1) {src dst : Memref sig .tc .vmem S4x128 .f32} {qs qr : DmaSem sig} {d : Dev nD} {hsc : dst.view.ref.isScScratch = false}
    (hs : src = sendM k) (hd : dst = recvM k) (hqs : qs = sendS k) (hqr : qr = recvS k) (hp : d = peer c)
    {h1 : src.view.WordExact} {h2 : dst.view.WordExact}
    {h3 : DmaTarget.Typed (nD := nD) (τ := τ) (p := .tc) .vmem (.dma qr) (.remote (Dev.tc d) dst (.dma qs) hsc)}
    {kk : PUnit → Prog (TpuEff nD τ sig (Elt F) Λ₀ .tc) α} {Q : α → sProp 𝕄} :
    iprop(ctx m K ∗ sums m c k 4 ∗ sendable c k ∗ target c k ∗ owing c (debt c n))
      ⊢ iprop((iprop(sending c k ∗ owing c (debt c n')) -∗ WP c (kk ⟨⟩) Q)
        -∗ WP c (.op (.enqueueDma src (.remote (Dev.tc d) dst (.dma qs) hsc) (.dma qr) h1 h2 h3) kk) Q) := by
  subst hs hd hqs hqr hp hn hn'
  unfold sendable target sending owing
  iintro ⟨#HC, Hs, ⟨Ha, Hr, Ht, Ht'⟩, ⟨⟨%f, Hd⟩, Hr'⟩, ⟨%W, HO⟩⟩ Hk
  ihave Hs := (sums_done m c k) $$ Hs
  unfold sendPts recvPts
  iapply (Rounds.wp_send_pointsTo 𝒱₀ ER (sched m) (c : Thread nD τ) none (c' := (peer c : Thread nD τ)) (src := sendM k) (dst := recvM k)
      (sS := .dma (sendS k)) (sem := .dma (recvS k)) (q := fullShare) (fs := part m c) (κ₁ := K (sendCell c k)) (κ₂ := K (recvCell (peer c) k))
      (r₁ := 0) (r₂ := 0) (d₁ := ()) (d₂ := ()) (fd := f)
      (by rw [duty_of m rfl (role_send k) Nat.one_pos]; exact Finset.mem_singleton_self _)
      (by rw [duty_of m rfl (role_recv k) Nat.one_pos]; exact Finset.mem_singleton_self _)
      () () NX (credit_recv k) (amount_of m (ro := .send k) (role_send k)) (amount_of m (ro := .recv k) (role_recv k))
      (debt c (k.val + 1)) (debt_step c k) (W := W)
      (by rw [payload_of m (role_send k)]; exact BI.Entails.refl _)
      (by
        rw [payload_of m (role_recv k)]
        show _ ⊢ recvPts (peer c) k (part m (peer (peer c)))
        rw [peer_peer]
        unfold recvPts
        rw [pointsTo_congr (sent k (part m c) f)])) $$ [Hs Hd HO Ht Hr Ht' Hr']
  · isplitr; · iapply (inv_send m K c k) $$ HC
    isplitr; · iapply (inv_recv m K (peer c) k) $$ HC
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  isplitl [Hc Ha]
  · isplitl [Hc]; · iexact Hc
    iexact Ha
  iexists _; iexact HO

/-- The receive buffer as it is lent to the neighbour: its rows and its open cells. -/
def lend : sProp 𝕄 := bigSep Finset.univ fun k : Fin 8 => iprop((∃ f, recvPts (F := F) c k f) ∗ reached ER (recvCell c k) 0)

/-- The entry signal lends the receive buffer to the neighbour. -/
theorem signal {d : Dev nD} (hp : d = peer c) {n : Int} (hn : n = ((1 : ℕ) : Int))
    {kk : PUnit → Prog (TpuEff nD τ sig (Elt F) Λ₀ .tc) α} {Q : α → sProp 𝕄} :
    iprop(ctx m K ∗ owing c (O₀ c) ∗ dutyTok ER (barCell (peer c)) 0 () ∗ lend (F := F) c ∗ reached ER (barCell (peer c)) 0)
      ⊢ iprop((owing c (debt c 0) -∗ WP c (kk ⟨⟩) Q)
        -∗ WP c (.op (.semSignal (Dev.tc d) barS n) kk) Q) := by
  subst hp hn
  unfold owing
  iintro ⟨#HC, ⟨%W, HO⟩, Ht, Hl, Hr⟩ Hk
  iapply (Rounds.wp_signal 𝒱₀ ER (sched m) (c : Thread nD τ) none (dst := (peer c : Thread nD τ)) (sem := barS) (r := 0) (d := ()) (κ := K (barCell (peer c)))
      (by rw [duty_of m (ro := .bar) rfl role_bar Nat.one_pos]; exact Finset.mem_singleton_self _) (amount_of m (ro := .bar) role_bar) () (debt c 0) rfl)
    $$ [HO Ht Hl Hr]
  · isplitr; · iapply (inv_bar m K (peer c)) $$ HC
    isplitl [HO]; · iexact HO
    isplitl [Ht]; · iexact Ht
    isplitl [Hl]
    · rw [payload_of m (g := barCell (peer c)) (ro := .bar) role_bar]
      ihave H := (show lend (F := F) c ⊢ payOf m (peer c) 0 .bar by
        show _ ⊢ barPay (peer c); unfold barPay lend; rw [peer_peer]) $$ Hl
      iexact H
    iexact Hr
  iintro HO
  iapply Hk
  iexists _; iexact HO

/-- The neighbour's entry signal brings its receive buffer. -/
theorem await {n : Int} (hn : n = ((1 : ℕ) : Int))
    {kk : PUnit → Prog (TpuEff nD τ sig (Elt F) Λ₀ .tc) α} {Q : α → sProp 𝕄} :
    iprop(ctx m K ∗ cred (tallyAt (barCell c) () 1) ∗ atPos ER (barCell c) 0 ∅ 0 ∗ owing c (debt c 0))
      ⊢ iprop((iprop(atPos ER (barCell c) 1 ∅ 0 ∗ (bigSep Finset.univ fun k : Fin 8 => target (F := F) c k) ∗ owing c (debt c 0)) -∗ WP c (kk ⟨⟩) Q)
        -∗ WP c (.op (.semWait barS n) kk) Q) := by
  subst hn
  unfold owing
  iintro ⟨#HC, Hc, Ha, ⟨%W, HO⟩⟩ Hk
  iapply (Rounds.wp_wait_rest_token 𝒱₀ ER (sched m) (c : Thread nD τ) none (κ := K (barCell c))
      (wpE_semWait_eq 𝒱₀ (c : Thread nD τ) none Set.univ) (Set.mem_univ _) () (O := debt c 0) (W := W) (R := 0) (m := 0) (T := ∅)
      ((Nat.zero_add 1).trans (expect_of m (ro := .bar) rfl role_bar Nat.one_pos).symm)) $$ [Hc HO Ha]
  · isplitr; · iapply (inv_bar m K c) $$ HC
    isplitl [Hc]; · iexact Hc
    isplitl [HO]; · iexact HO
    isplitr
    · iapply (mayWait c (.reg barS) 0 (le_refl 1))
      iapply (ctx_lev m K) $$ HC
    iexact Ha
  iintro ⟨HO, Ha, -, Hp⟩
  ihave Hp := (Entails.of_eq ((rest_of m (g := barCell c) (ro := .bar) rfl role_bar Nat.one_pos).trans
    (show payOf m c 0 .bar = bigSep Finset.univ fun k : Fin 8 => target (F := F) c k from rfl))) $$ Hp
  iapply Hk
  isplitl [Ha]; · iexact Ha
  isplitl [Hp]; · iexact Hp
  iexists _; iexact HO

/-- Waiting for the send of chunk `k`'s sums, nothing owed. -/
theorem finish_send (k : Fin 8) {s : Shape} {e : EltTy} {sp sp' : Space} {s' : Shape} {e' : EltTy} {src : Memref sig .tc sp' s' e'} {dst : Memref sig .tc sp s e} {q : DmaSem sig}
    (hd : dst.view.dmaCredit = NX) (hq : q = sendS k) {h1 : src.view.WordExact} {h2 : dst.view.WordExact}
    {kk : PUnit → Prog (TpuEff nD τ sig (Elt F) Λ₀ .tc) α} {Q : α → sProp 𝕄} :
    iprop(ctx m K ∗ sending c k ∗ owing c 0)
      ⊢ iprop((iprop(sentDone m c k ∗ owing c 0) -∗ WP c (kk ⟨⟩) Q)
        -∗ WP c (.op (.waitDma2 q src dst h1 h2) kk) Q) := by
  subst hq
  unfold sending owing sentDone
  iintro ⟨#HC, ⟨Hc, Ha⟩, ⟨%W, HO⟩⟩ Hk
  rw [← hd]
  iapply (Rounds.wp_wait_rest_token 𝒱₀ ER (sched m) (c : Thread nD τ) none (κ := K (sendCell c k))
      (wpE_waitDma2_eq (src := src) (dst := dst) 𝒱₀ (c : Thread nD τ) none Set.univ) (Set.mem_univ _) () (O := 0) (W := W) (R := 0) (m := 0) (T := ∅)
      ((Nat.zero_add _).trans (hd.trans (expect_of m (ro := .send k) rfl (role_send _) Nat.one_pos).symm))) $$ [Hc HO Ha]
  · isplitr; · iapply (inv_send m K c k) $$ HC
    isplitl [Hc]; · iexact Hc
    isplitl [HO]; · iexact HO
    isplitr; · rw [MayWait_zero]; iempintro
    iexact Ha
  iintro ⟨HO, Ha, -, Hp⟩
  ihave Hp := (Entails.of_eq ((rest_of m (g := sendCell c k) (ro := .send k) rfl (role_send _) Nat.one_pos).trans
    (show payOf m c 0 (.send k) = sendPts c k (part m c) from rfl))) $$ Hp
  iapply Hk
  isplitl [Hp Ha]
  · isplitl [Hp]; · iexact Hp
    iexact Ha
  iexists _; iexact HO

/-- Waiting for the neighbour's sums of its chunk `k`, nothing owed. -/
theorem finish_recv (k : Fin 8) {s : Shape} {e : EltTy} {sp sp' : Space} {s' : Shape} {e' : EltTy} {src : Memref sig .tc sp' s' e'} {dst : Memref sig .tc sp s e} {q : DmaSem sig}
    (hd : dst.view.dmaCredit = NX) (hq : q = recvS k) {h1 : src.view.WordExact} {h2 : dst.view.WordExact}
    {kk : PUnit → Prog (TpuEff nD τ sig (Elt F) Λ₀ .tc) α} {Q : α → sProp 𝕄} :
    iprop(ctx m K ∗ receiving c k ∗ owing c 0)
      ⊢ iprop((iprop(received m c k ∗ owing c 0) -∗ WP c (kk ⟨⟩) Q)
        -∗ WP c (.op (.waitDma2 q src dst h1 h2) kk) Q) := by
  subst hq
  unfold receiving owing received
  iintro ⟨#HC, ⟨Hc, Ha⟩, ⟨%W, HO⟩⟩ Hk
  rw [← hd]
  iapply (Rounds.wp_wait_rest_token 𝒱₀ ER (sched m) (c : Thread nD τ) none (κ := K (recvCell c k))
      (wpE_waitDma2_eq (src := src) (dst := dst) 𝒱₀ (c : Thread nD τ) none Set.univ) (Set.mem_univ _) () (O := 0) (W := W) (R := 0) (m := 0) (T := ∅)
      ((Nat.zero_add _).trans (hd.trans (expect_of m (ro := .recv k) rfl (role_recv _) Nat.one_pos).symm))) $$ [Hc HO Ha]
  · isplitr; · iapply (inv_recv m K c k) $$ HC
    isplitl [Hc]; · iexact Hc
    isplitl [HO]; · iexact HO
    isplitr; · rw [MayWait_zero]; iempintro
    iexact Ha
  iintro ⟨HO, Ha, -, Hp⟩
  ihave Hp := (Entails.of_eq ((rest_of m (g := recvCell c k) (ro := .recv k) rfl (role_recv _) Nat.one_pos).trans
    (show payOf m c 0 (.recv k) = recvPts c k (part m (peer c)) from rfl))) $$ Hp
  iapply Hk
  isplitl [Hp Ha]
  · isplitl [Hp]; · iexact Hp
    iexact Ha
  iexists _; iexact HO

/-- The devices the kernel addresses are all the neighbour. -/
theorem dev_peer (d : Dev nD) (h : d.val = (2 * (c.val / 2) + 1) - (c.val % 2)) : d = peer c := Fin.ext h

end Cert.KernelIdeal.Mean

end
-- ==== Proof.PartsA.lean ====
/- The kernel's text, part by part: the first four chunks. -/
module

public import proofs.«01_k».proof.Proof.Ops

@[expose] public section

noncomputable section

namespace Cert.KernelIdeal.Mean

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) (c : Dev nD)
variable {oM : Memref sig .tc .vmem S32x128 .f32} {ho : oM.IsWhole}

/-- The copies of the first three chunks are started. -/
theorem part1 {Q : (Σ' (_ : Dev nD) (_ : BitVec 32), BitVec 32) → sProp 𝕄} :
    iprop(ctx m K ∗ fetchable m c 0 ∗ slotFree c 0 ∗ fetchable m c 1 ∗ slotFree c 1 ∗ fetchable m c 2 ∗ slotFree c 2)
      ⊢ iprop((iprop(flying c 0 ∗ flying c 1 ∗ flying c 2) -∗ ∀ v2, ∀ v6, Q ⟨c, v2, v6⟩)
        -∗ WP c (k0_part1_skel (F := F) xM (Memref.isWhole_whole _) oM ho bM (Memref.isWhole_whole _) cc0_scratch1 sM (Memref.isWhole_whole _) rM (Memref.isWhole_whole _) cc0_scratch4 cc0_scratch5) Q) := by
  simp only [k0_part1_skel, Prog.lift, Prog.bind_op, Prog.bind_ret, Prog.pure_eq_ret, Prog.bind_assoc, semSignalWord, semWaitWord, wp_deviceId]
  iintro ⟨#HC, HF0, HV0, HF1, HV1, HF2, HV2⟩ Hk
  iapply (fetch m K c 0 (by rfl) (by rfl) (by rfl)) $$ [HF0 HV0]
  · iframe # ∗
  iintro HY0
  iapply (fetch m K c 1 (by rfl) (by rfl) (by rfl)) $$ [HF1 HV1]
  · iframe # ∗
  iintro HY1
  iapply (fetch m K c 2 (by rfl) (by rfl) (by rfl)) $$ [HF2 HV2]
  · iframe # ∗
  iintro HY2
  iapply (ended c)
  ihave Hk := Hk $$ [HY0 HY1 HY2]
  · iframe
  iapply Hk

/-- The fourth copy is started, the devices signal each other, and the first row of chunk 0 is stored. -/
theorem part2 {v2 : BitVec 32} {v6 : BitVec 32} {Q : (Σ' (_ : FVec F S512x128 .f32), FVec F S128 .f32) → sProp 𝕄} :
    iprop(ctx m K ∗ fetchable m c 3 ∗ slotFree c 3 ∗ owing c (O₀ c) ∗ dutyTok ER (barCell (peer c)) 0 () ∗ lend (F := F) c ∗ reached ER (barCell (peer c)) 0 ∗ cred (tallyAt (barCell c) () 1) ∗ atPos ER (barCell c) 0 ∅ 0 ∗ flying c 0 ∗ sums m c 0 0)
      ⊢ iprop((iprop(flying c 3 ∗ atPos ER (barCell c) 1 ∅ 0 ∗ (bigSep Finset.univ fun k : Fin 8 => target (F := F) c k) ∗ arrived m c 0 ∗ xPts m c 0 ∗ owing c (debt c 0) ∗ sums m c 0 1) -∗ Q ⟨k0_pay1 (chunk m c 0), k0_pay3 (chunk m c 0)⟩)
        -∗ WP c (k0_part2_skel (F := F) xM (Memref.isWhole_whole _) oM ho bM (Memref.isWhole_whole _) cc0_scratch1 sM (Memref.isWhole_whole _) rM (Memref.isWhole_whole _) cc0_scratch4 cc0_scratch5 c v2 v6) Q) := by
  simp only [k0_part2_skel, Prog.lift, Prog.bind_op, Prog.bind_ret, Prog.pure_eq_ret, Prog.bind_assoc, semSignalWord, semWaitWord, wp_deviceId]
  iintro ⟨#HC, HF3, HV3, HO, HP, HL, HQ, HC1, HB1, HY0, HS0⟩ Hk
  iapply (fetch m K c 3 (by rfl) (by rfl) (by rfl)) $$ [HF3 HV3]
  · iframe # ∗
  iintro HY3
  iapply (signal m K c (by exact dev_peer c _ (k0_dev1_eq c)) (by rfl)) $$ [HO HP HL HQ]
  · iframe # ∗
  iintro HO
  iapply (await m K c (by rfl)) $$ [HC1 HB1 HO]
  · iframe # ∗
  iintro ⟨HB2, HTT, HO⟩
  iapply (arrive m K c 0 0 (by rfl) (by rfl)) $$ [HY0 HO]
  · iframe # ∗
  iintro ⟨HA0, HX0, HO⟩
  iapply (load_chunk m c 0 0 (by rfl)) $$ HA0
  iintro HA0
  iapply (load_row m c 0 0 0) $$ HS0
  iintro %w0 HS0
  iapply (store_row m c 0 0 0 1 (by rfl) (by rfl) (by rfl)) $$ HS0
  iintro HS0
  iapply (ended c)
  iapply Hk
  iframe

/-- The rest of chunk 0 is stored and sent; its slot is filled again. -/
theorem part3 {v2 : BitVec 32} {v6 : BitVec 32} {Q : (PUnit) → sProp 𝕄} :
    iprop(ctx m K ∗ sums m c 0 1 ∗ sendable (F := F) c 0 ∗ target (F := F) c 0 ∗ owing c (debt c 0) ∗ arrived m c 0 ∗ fetchable m c 4)
      ⊢ iprop((iprop(sending c 0 ∗ owing c (debt c 1) ∗ flying c 4) -∗ Q ⟨⟩)
        -∗ WP c (k0_part3_skel (F := F) xM (Memref.isWhole_whole _) oM ho bM (Memref.isWhole_whole _) cc0_scratch1 sM (Memref.isWhole_whole _) rM (Memref.isWhole_whole _) cc0_scratch4 cc0_scratch5 c v2 v6 (k0_pay1 (chunk m c 0)) (k0_pay3 (chunk m c 0))) Q) := by
  simp only [k0_part3_skel, Prog.lift, Prog.bind_op, Prog.bind_ret, Prog.pure_eq_ret, Prog.bind_assoc, semSignalWord, semWaitWord, wp_deviceId]
  iintro ⟨#HC, HS0, HB0, HT0, HO, HA0, HF4⟩ Hk
  iapply (load_row m c 0 1 1) $$ HS0
  iintro %w1 HS0
  iapply (store_row m c 0 1 1 2 (by rfl) (by rfl) (by rfl)) $$ HS0
  iintro HS0
  iapply (load_row m c 0 2 2) $$ HS0
  iintro %w2 HS0
  iapply (store_row m c 0 2 2 3 (by rfl) (by rfl) (by rfl)) $$ HS0
  iintro HS0
  iapply (load_row m c 0 3 3) $$ HS0
  iintro %w3 HS0
  iapply (store_row m c 0 3 3 4 (by rfl) (by rfl) (by rfl)) $$ HS0
  iintro HS0
  iapply (xfer m K c 0 0 1 (by rfl) (by rfl) (by rfl) (by rfl) (by rfl) (by rfl) (by exact dev_peer c _ (k0_dev2_eq c))) $$ [HS0 HB0 HT0 HO]
  · iframe # ∗
  iintro ⟨HG0, HO⟩
  ihave HV4 := (next m c 0 4 rfl) $$ HA0
  iapply (fetch m K c 4 (by rfl) (by rfl) (by rfl)) $$ [HF4 HV4]
  · iframe # ∗
  iintro HY4
  iapply (ended c)
  iapply Hk
  iframe

/-- Chunk 1 is awaited; three of its rows are stored. -/
theorem part4 {Q : (FVec F S128 .f32) → sProp 𝕄} :
    iprop(ctx m K ∗ flying c 1 ∗ owing c (debt c 1) ∗ sums m c 1 0)
      ⊢ iprop((iprop(arrived m c 1 ∗ xPts m c 1 ∗ owing c (debt c 1) ∗ sums m c 1 3) -∗ Q (k0_pay11 (chunk m c 1)))
        -∗ WP c (k0_part4_skel (F := F) xM (Memref.isWhole_whole _) oM ho bM (Memref.isWhole_whole _) cc0_scratch1 sM (Memref.isWhole_whole _) rM (Memref.isWhole_whole _) cc0_scratch4 cc0_scratch5) Q) := by
  simp only [k0_part4_skel, Prog.lift, Prog.bind_op, Prog.bind_ret, Prog.pure_eq_ret, Prog.bind_assoc, semSignalWord, semWaitWord, wp_deviceId]
  iintro ⟨#HC, HY1, HO, HS1⟩ Hk
  iapply (arrive m K c 1 1 (by rfl) (by rfl)) $$ [HY1 HO]
  · iframe # ∗
  iintro ⟨HA1, HX1, HO⟩
  iapply (load_chunk m c 1 1 (by rfl)) $$ HA1
  iintro HA1
  iapply (load_row m c 1 0 0) $$ HS1
  iintro %w0 HS1
  iapply (store_row m c 1 0 0 1 (by rfl) (by rfl) (by rfl)) $$ HS1
  iintro HS1
  iapply (load_row m c 1 1 1) $$ HS1
  iintro %w1 HS1
  iapply (store_row m c 1 1 1 2 (by rfl) (by rfl) (by rfl)) $$ HS1
  iintro HS1
  iapply (load_row m c 1 2 2) $$ HS1
  iintro %w2 HS1
  iapply (store_row m c 1 2 2 3 (by rfl) (by rfl) (by rfl)) $$ HS1
  iintro HS1
  iapply (load_row m c 1 3 3) $$ HS1
  iintro %w3 HS1
  iapply (ended c)
  iapply Hk
  iframe

/-- Chunk 1 is sent, its slot filled again, and chunk 2 awaited. -/
theorem part5 {v2 : BitVec 32} {v6 : BitVec 32} {Q : (Σ' (_ : FVec F S512x1024 .f32), FVec F S512x128 .f32) → sProp 𝕄} :
    iprop(ctx m K ∗ sums m c 1 3 ∗ sendable (F := F) c 1 ∗ target (F := F) c 1 ∗ owing c (debt c 1) ∗ arrived m c 1 ∗ fetchable m c 5 ∗ flying c 2)
      ⊢ iprop((iprop(sending c 1 ∗ flying c 5 ∗ arrived m c 2 ∗ xPts m c 2 ∗ owing c (debt c 2)) -∗ Q ⟨k0_pay13 (chunk m c 2), k0_pay14 (chunk m c 2)⟩)
        -∗ WP c (k0_part5_skel (F := F) xM (Memref.isWhole_whole _) oM ho bM (Memref.isWhole_whole _) cc0_scratch1 sM (Memref.isWhole_whole _) rM (Memref.isWhole_whole _) cc0_scratch4 cc0_scratch5 c v2 v6 (k0_pay11 (chunk m c 1))) Q) := by
  simp only [k0_part5_skel, Prog.lift, Prog.bind_op, Prog.bind_ret, Prog.pure_eq_ret, Prog.bind_assoc, semSignalWord, semWaitWord, wp_deviceId]
  iintro ⟨#HC, HS1, HB1, HT1, HO, HA1, HF5, HY2⟩ Hk
  iapply (store_row m c 1 3 3 4 (by rfl) (by rfl) (by rfl)) $$ HS1
  iintro HS1
  iapply (xfer m K c 1 1 2 (by rfl) (by rfl) (by rfl) (by rfl) (by rfl) (by rfl) (by exact dev_peer c _ (k0_dev3_eq c))) $$ [HS1 HB1 HT1 HO]
  · iframe # ∗
  iintro ⟨HG1, HO⟩
  ihave HV5 := (next m c 1 5 rfl) $$ HA1
  iapply (fetch m K c 5 (by rfl) (by rfl) (by rfl)) $$ [HF5 HV5]
  · iframe # ∗
  iintro HY5
  iapply (arrive m K c 2 2 (by rfl) (by rfl)) $$ [HY2 HO]
  · iframe # ∗
  iintro ⟨HA2, HX2, HO⟩
  iapply (load_chunk m c 2 2 (by rfl)) $$ HA2
  iintro HA2
  iapply (ended c)
  iapply Hk
  iframe

/-- The rows of chunk 2 are stored. -/
theorem part6 {v2 : BitVec 32} {v6 : BitVec 32} {Q : (PUnit) → sProp 𝕄} :
    iprop(ctx m K ∗ sums m c 2 0)
      ⊢ iprop((iprop(sums m c 2 4) -∗ Q ⟨⟩)
        -∗ WP c (k0_part6_skel (F := F) xM (Memref.isWhole_whole _) oM ho bM (Memref.isWhole_whole _) cc0_scratch1 sM (Memref.isWhole_whole _) rM (Memref.isWhole_whole _) cc0_scratch4 cc0_scratch5 v2 v6 (k0_pay13 (chunk m c 2)) (k0_pay14 (chunk m c 2))) Q) := by
  simp only [k0_part6_skel, Prog.lift, Prog.bind_op, Prog.bind_ret, Prog.pure_eq_ret, Prog.bind_assoc, semSignalWord, semWaitWord, wp_deviceId]
  iintro ⟨#HC, HS2⟩ Hk
  iapply (load_row m c 2 0 0) $$ HS2
  iintro %w0 HS2
  iapply (store_row m c 2 0 0 1 (by rfl) (by rfl) (by rfl)) $$ HS2
  iintro HS2
  iapply (load_row m c 2 1 1) $$ HS2
  iintro %w1 HS2
  iapply (store_row m c 2 1 1 2 (by rfl) (by rfl) (by rfl)) $$ HS2
  iintro HS2
  iapply (load_row m c 2 2 2) $$ HS2
  iintro %w2 HS2
  iapply (store_row m c 2 2 2 3 (by rfl) (by rfl) (by rfl)) $$ HS2
  iintro HS2
  iapply (load_row m c 2 3 3) $$ HS2
  iintro %w3 HS2
  iapply (store_row m c 2 3 3 4 (by rfl) (by rfl) (by rfl)) $$ HS2
  iintro HS2
  iapply (ended c)
  iapply Hk
  iframe

/-- Chunk 2 is sent, its slot filled again; chunk 3 is awaited and its first row stored. -/
theorem part7 {Q : (Σ' (_ : FVec F S512x128 .f32), FVec F S128 .f32) → sProp 𝕄} :
    iprop(ctx m K ∗ sums m c 2 4 ∗ sendable (F := F) c 2 ∗ target (F := F) c 2 ∗ owing c (debt c 2) ∗ arrived m c 2 ∗ fetchable m c 6 ∗ flying c 3 ∗ sums m c 3 0)
      ⊢ iprop((iprop(sending c 2 ∗ flying c 6 ∗ arrived m c 3 ∗ xPts m c 3 ∗ owing c (debt c 3) ∗ sums m c 3 1) -∗ Q ⟨k0_pay20 (chunk m c 3), k0_pay22 (chunk m c 3)⟩)
        -∗ WP c (k0_part7_skel (F := F) xM (Memref.isWhole_whole _) oM ho bM (Memref.isWhole_whole _) cc0_scratch1 sM (Memref.isWhole_whole _) rM (Memref.isWhole_whole _) cc0_scratch4 cc0_scratch5 c) Q) := by
  simp only [k0_part7_skel, Prog.lift, Prog.bind_op, Prog.bind_ret, Prog.pure_eq_ret, Prog.bind_assoc, semSignalWord, semWaitWord, wp_deviceId]
  iintro ⟨#HC, HS2, HB2, HT2, HO, HA2, HF6, HY3, HS3⟩ Hk
  iapply (xfer m K c 2 2 3 (by rfl) (by rfl) (by rfl) (by rfl) (by rfl) (by rfl) (by exact dev_peer c _ (k0_dev4_eq c))) $$ [HS2 HB2 HT2 HO]
  · iframe # ∗
  iintro ⟨HG2, HO⟩
  ihave HV6 := (next m c 2 6 rfl) $$ HA2
  iapply (fetch m K c 6 (by rfl) (by rfl) (by rfl)) $$ [HF6 HV6]
  · iframe # ∗
  iintro HY6
  iapply (arrive m K c 3 3 (by rfl) (by rfl)) $$ [HY3 HO]
  · iframe # ∗
  iintro ⟨HA3, HX3, HO⟩
  iapply (load_chunk m c 3 3 (by rfl)) $$ HA3
  iintro HA3
  iapply (load_row m c 3 0 0) $$ HS3
  iintro %w0 HS3
  iapply (store_row m c 3 0 0 1 (by rfl) (by rfl) (by rfl)) $$ HS3
  iintro HS3
  iapply (ended c)
  iapply Hk
  iframe

/-- The rest of chunk 3 is stored and sent; its slot is filled again. -/
theorem part8 {v2 : BitVec 32} {v6 : BitVec 32} {Q : (PUnit) → sProp 𝕄} :
    iprop(ctx m K ∗ sums m c 3 1 ∗ sendable (F := F) c 3 ∗ target (F := F) c 3 ∗ owing c (debt c 3) ∗ arrived m c 3 ∗ fetchable m c 7)
      ⊢ iprop((iprop(sending c 3 ∗ owing c (debt c 4) ∗ flying c 7) -∗ Q ⟨⟩)
        -∗ WP c (k0_part8_skel (F := F) xM (Memref.isWhole_whole _) oM ho bM (Memref.isWhole_whole _) cc0_scratch1 sM (Memref.isWhole_whole _) rM (Memref.isWhole_whole _) cc0_scratch4 cc0_scratch5 c v2 v6 (k0_pay20 (chunk m c 3)) (k0_pay22 (chunk m c 3))) Q) := by
  simp only [k0_part8_skel, Prog.lift, Prog.bind_op, Prog.bind_ret, Prog.pure_eq_ret, Prog.bind_assoc, semSignalWord, semWaitWord, wp_deviceId]
  iintro ⟨#HC, HS3, HB3, HT3, HO, HA3, HF7⟩ Hk
  iapply (load_row m c 3 1 1) $$ HS3
  iintro %w1 HS3
  iapply (store_row m c 3 1 1 2 (by rfl) (by rfl) (by rfl)) $$ HS3
  iintro HS3
  iapply (load_row m c 3 2 2) $$ HS3
  iintro %w2 HS3
  iapply (store_row m c 3 2 2 3 (by rfl) (by rfl) (by rfl)) $$ HS3
  iintro HS3
  iapply (load_row m c 3 3 3) $$ HS3
  iintro %w3 HS3
  iapply (store_row m c 3 3 3 4 (by rfl) (by rfl) (by rfl)) $$ HS3
  iintro HS3
  iapply (xfer m K c 3 3 4 (by rfl) (by rfl) (by rfl) (by rfl) (by rfl) (by rfl) (by exact dev_peer c _ (k0_dev5_eq c))) $$ [HS3 HB3 HT3 HO]
  · iframe # ∗
  iintro ⟨HG3, HO⟩
  ihave HV7 := (next m c 3 7 rfl) $$ HA3
  iapply (fetch m K c 7 (by rfl) (by rfl) (by rfl)) $$ [HF7 HV7]
  · iframe # ∗
  iintro HY7
  iapply (ended c)
  iapply Hk
  iframe

end Cert.KernelIdeal.Mean

end
-- ==== Proof.PartsB.lean ====
/- The kernel's text, part by part: the last four chunks and the waits that follow. -/
module

public import proofs.«01_k».proof.Proof.Ops

@[expose] public section

noncomputable section

namespace Cert.KernelIdeal.Mean

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) (c : Dev nD)
variable {oM : Memref sig .tc .vmem S32x128 .f32} {ho : oM.IsWhole}

/-- Chunk 4 is awaited; three of its rows are stored. -/
theorem part9 {Q : (FVec F S128 .f32) → sProp 𝕄} :
    iprop(ctx m K ∗ flying c 4 ∗ owing c (debt c 4) ∗ sums m c 4 0)
      ⊢ iprop((iprop(arrived m c 4 ∗ xPts m c 4 ∗ owing c (debt c 4) ∗ sums m c 4 3) -∗ Q (k0_pay30 (chunk m c 4)))
        -∗ WP c (k0_part9_skel (F := F) xM (Memref.isWhole_whole _) oM ho bM (Memref.isWhole_whole _) cc0_scratch1 sM (Memref.isWhole_whole _) rM (Memref.isWhole_whole _) cc0_scratch4 cc0_scratch5) Q) := by
  simp only [k0_part9_skel, Prog.lift, Prog.bind_op, Prog.bind_ret, Prog.pure_eq_ret, Prog.bind_assoc, semSignalWord, semWaitWord, wp_deviceId]
  iintro ⟨#HC, HY4, HO, HS4⟩ Hk
  iapply (arrive m K c 4 4 (by rfl) (by rfl)) $$ [HY4 HO]
  · iframe # ∗
  iintro ⟨HA4, HX4, HO⟩
  iapply (load_chunk m c 4 0 (by rfl)) $$ HA4
  iintro HA4
  iapply (load_row m c 4 0 0) $$ HS4
  iintro %w0 HS4
  iapply (store_row m c 4 0 0 1 (by rfl) (by rfl) (by rfl)) $$ HS4
  iintro HS4
  iapply (load_row m c 4 1 1) $$ HS4
  iintro %w1 HS4
  iapply (store_row m c 4 1 1 2 (by rfl) (by rfl) (by rfl)) $$ HS4
  iintro HS4
  iapply (load_row m c 4 2 2) $$ HS4
  iintro %w2 HS4
  iapply (store_row m c 4 2 2 3 (by rfl) (by rfl) (by rfl)) $$ HS4
  iintro HS4
  iapply (load_row m c 4 3 3) $$ HS4
  iintro %w3 HS4
  iapply (ended c)
  iapply Hk
  iframe

/-- Chunk 4 is sent; chunk 5 is awaited. -/
theorem part10 {v2 : BitVec 32} {v6 : BitVec 32} {Q : (Σ' (_ : FVec F S512x128 .f32) (_ : FVec F S128 .f32), Vec F S1x128 .f32) → sProp 𝕄} :
    iprop(ctx m K ∗ sums m c 4 3 ∗ sendable (F := F) c 4 ∗ target (F := F) c 4 ∗ owing c (debt c 4) ∗ flying c 5 ∗ sums m c 5 0)
      ⊢ iprop((iprop(sending c 4 ∗ arrived m c 5 ∗ xPts m c 5 ∗ owing c (debt c 5) ∗ sums m c 5 0) -∗ ∀ w, Q ⟨k0_pay32 (chunk m c 5), k0_pay33 (chunk m c 5), w⟩)
        -∗ WP c (k0_part10_skel (F := F) xM (Memref.isWhole_whole _) oM ho bM (Memref.isWhole_whole _) cc0_scratch1 sM (Memref.isWhole_whole _) rM (Memref.isWhole_whole _) cc0_scratch4 cc0_scratch5 c v2 v6 (k0_pay30 (chunk m c 4))) Q) := by
  simp only [k0_part10_skel, Prog.lift, Prog.bind_op, Prog.bind_ret, Prog.pure_eq_ret, Prog.bind_assoc, semSignalWord, semWaitWord, wp_deviceId]
  iintro ⟨#HC, HS4, HB4, HT4, HO, HY5, HS5⟩ Hk
  iapply (store_row m c 4 3 3 4 (by rfl) (by rfl) (by rfl)) $$ HS4
  iintro HS4
  iapply (xfer m K c 4 4 5 (by rfl) (by rfl) (by rfl) (by rfl) (by rfl) (by rfl) (by exact dev_peer c _ (k0_dev6_eq c))) $$ [HS4 HB4 HT4 HO]
  · iframe # ∗
  iintro ⟨HG4, HO⟩
  iapply (arrive m K c 5 5 (by rfl) (by rfl)) $$ [HY5 HO]
  · iframe # ∗
  iintro ⟨HA5, HX5, HO⟩
  iapply (load_chunk m c 5 1 (by rfl)) $$ HA5
  iintro HA5
  iapply (load_row m c 5 0 0) $$ HS5
  iintro %w0 HS5
  iapply (ended c)
  ihave Hk := Hk $$ [HG4 HA5 HX5 HO HS5]
  · iframe
  iapply Hk

/-- The rows of chunk 5 are stored and sent. -/
theorem part11 {v2 : BitVec 32} {v6 : BitVec 32} {v336 : Vec F S1x128 .f32} {Q : (PUnit) → sProp 𝕄} :
    iprop(ctx m K ∗ sums m c 5 0 ∗ sendable (F := F) c 5 ∗ target (F := F) c 5 ∗ owing c (debt c 5))
      ⊢ iprop((iprop(sending c 5 ∗ owing c (debt c 6)) -∗ Q ⟨⟩)
        -∗ WP c (k0_part11_skel (F := F) xM (Memref.isWhole_whole _) oM ho bM (Memref.isWhole_whole _) cc0_scratch1 sM (Memref.isWhole_whole _) rM (Memref.isWhole_whole _) cc0_scratch4 cc0_scratch5 c v2 v6 (k0_pay32 (chunk m c 5)) (k0_pay33 (chunk m c 5)) v336) Q) := by
  simp only [k0_part11_skel, Prog.lift, Prog.bind_op, Prog.bind_ret, Prog.pure_eq_ret, Prog.bind_assoc, semSignalWord, semWaitWord, wp_deviceId]
  iintro ⟨#HC, HS5, HB5, HT5, HO⟩ Hk
  iapply (store_row m c 5 0 0 1 (by rfl) (by rfl) (by rfl)) $$ HS5
  iintro HS5
  iapply (load_row m c 5 1 1) $$ HS5
  iintro %w1 HS5
  iapply (store_row m c 5 1 1 2 (by rfl) (by rfl) (by rfl)) $$ HS5
  iintro HS5
  iapply (load_row m c 5 2 2) $$ HS5
  iintro %w2 HS5
  iapply (store_row m c 5 2 2 3 (by rfl) (by rfl) (by rfl)) $$ HS5
  iintro HS5
  iapply (load_row m c 5 3 3) $$ HS5
  iintro %w3 HS5
  iapply (store_row m c 5 3 3 4 (by rfl) (by rfl) (by rfl)) $$ HS5
  iintro HS5
  iapply (xfer m K c 5 5 6 (by rfl) (by rfl) (by rfl) (by rfl) (by rfl) (by rfl) (by exact dev_peer c _ (k0_dev7_eq c))) $$ [HS5 HB5 HT5 HO]
  · iframe # ∗
  iintro ⟨HG5, HO⟩
  iapply (ended c)
  iapply Hk
  iframe

/-- Chunk 6 is awaited and its rows stored. -/
theorem part12 {Q : (PUnit) → sProp 𝕄} :
    iprop(ctx m K ∗ flying c 6 ∗ owing c (debt c 6) ∗ sums m c 6 0)
      ⊢ iprop((iprop(arrived m c 6 ∗ xPts m c 6 ∗ owing c (debt c 6) ∗ sums m c 6 4) -∗ Q ⟨⟩)
        -∗ WP c (k0_part12_skel (F := F) xM (Memref.isWhole_whole _) oM ho bM (Memref.isWhole_whole _) cc0_scratch1 sM (Memref.isWhole_whole _) rM (Memref.isWhole_whole _) cc0_scratch4 cc0_scratch5) Q) := by
  simp only [k0_part12_skel, Prog.lift, Prog.bind_op, Prog.bind_ret, Prog.pure_eq_ret, Prog.bind_assoc, semSignalWord, semWaitWord, wp_deviceId]
  iintro ⟨#HC, HY6, HO, HS6⟩ Hk
  iapply (arrive m K c 6 6 (by rfl) (by rfl)) $$ [HY6 HO]
  · iframe # ∗
  iintro ⟨HA6, HX6, HO⟩
  iapply (load_chunk m c 6 2 (by rfl)) $$ HA6
  iintro HA6
  iapply (load_row m c 6 0 0) $$ HS6
  iintro %w0 HS6
  iapply (store_row m c 6 0 0 1 (by rfl) (by rfl) (by rfl)) $$ HS6
  iintro HS6
  iapply (load_row m c 6 1 1) $$ HS6
  iintro %w1 HS6
  iapply (store_row m c 6 1 1 2 (by rfl) (by rfl) (by rfl)) $$ HS6
  iintro HS6
  iapply (load_row m c 6 2 2) $$ HS6
  iintro %w2 HS6
  iapply (store_row m c 6 2 2 3 (by rfl) (by rfl) (by rfl)) $$ HS6
  iintro HS6
  iapply (load_row m c 6 3 3) $$ HS6
  iintro %w3 HS6
  iapply (store_row m c 6 3 3 4 (by rfl) (by rfl) (by rfl)) $$ HS6
  iintro HS6
  iapply (ended c)
  iapply Hk
  iframe

/-- Chunk 6 is sent; chunk 7 is awaited and its first row stored. -/
theorem part13 {v2 : BitVec 32} {v6 : BitVec 32} {Q : (Σ' (_ : FVec F S512x128 .f32), FVec F S128x128 .f32) → sProp 𝕄} :
    iprop(ctx m K ∗ sums m c 6 4 ∗ sendable (F := F) c 6 ∗ target (F := F) c 6 ∗ owing c (debt c 6) ∗ flying c 7 ∗ sums m c 7 0)
      ⊢ iprop((iprop(sending c 6 ∗ arrived m c 7 ∗ xPts m c 7 ∗ owing c (debt c 7) ∗ sums m c 7 1) -∗ Q ⟨k0_pay43 (chunk m c 7), k0_pay45 (chunk m c 7)⟩)
        -∗ WP c (k0_part13_skel (F := F) xM (Memref.isWhole_whole _) oM ho bM (Memref.isWhole_whole _) cc0_scratch1 sM (Memref.isWhole_whole _) rM (Memref.isWhole_whole _) cc0_scratch4 cc0_scratch5 c v2 v6) Q) := by
  simp only [k0_part13_skel, Prog.lift, Prog.bind_op, Prog.bind_ret, Prog.pure_eq_ret, Prog.bind_assoc, semSignalWord, semWaitWord, wp_deviceId]
  iintro ⟨#HC, HS6, HB6, HT6, HO, HY7, HS7⟩ Hk
  iapply (xfer m K c 6 6 7 (by rfl) (by rfl) (by rfl) (by rfl) (by rfl) (by rfl) (by exact dev_peer c _ (k0_dev8_eq c))) $$ [HS6 HB6 HT6 HO]
  · iframe # ∗
  iintro ⟨HG6, HO⟩
  iapply (arrive m K c 7 7 (by rfl) (by rfl)) $$ [HY7 HO]
  · iframe # ∗
  iintro ⟨HA7, HX7, HO⟩
  iapply (load_chunk m c 7 3 (by rfl)) $$ HA7
  iintro HA7
  iapply (load_row m c 7 0 0) $$ HS7
  iintro %w0 HS7
  iapply (store_row m c 7 0 0 1 (by rfl) (by rfl) (by rfl)) $$ HS7
  iintro HS7
  iapply (ended c)
  iapply Hk
  iframe

/-- The rest of chunk 7 is stored and sent; the first send is finished. -/
theorem part14 {v2 : BitVec 32} {v6 : BitVec 32} {Q : (PUnit) → sProp 𝕄} :
    iprop(ctx m K ∗ sums m c 7 1 ∗ sendable (F := F) c 7 ∗ target (F := F) c 7 ∗ owing c (debt c 7) ∗ sending c 0)
      ⊢ iprop((iprop(sending c 7 ∗ sentDone m c 0 ∗ owing c 0) -∗ Q ⟨⟩)
        -∗ WP c (k0_part14_skel (F := F) xM (Memref.isWhole_whole _) oM ho bM (Memref.isWhole_whole _) cc0_scratch1 sM (Memref.isWhole_whole _) rM (Memref.isWhole_whole _) cc0_scratch4 cc0_scratch5 c v2 v6 (k0_pay43 (chunk m c 7)) (k0_pay45 (chunk m c 7))) Q) := by
  simp only [k0_part14_skel, Prog.lift, Prog.bind_op, Prog.bind_ret, Prog.pure_eq_ret, Prog.bind_assoc, semSignalWord, semWaitWord, wp_deviceId]
  iintro ⟨#HC, HS7, HB7, HT7, HO, HG0⟩ Hk
  iapply (load_row m c 7 1 1) $$ HS7
  iintro %w1 HS7
  iapply (store_row m c 7 1 1 2 (by rfl) (by rfl) (by rfl)) $$ HS7
  iintro HS7
  iapply (load_row m c 7 2 2) $$ HS7
  iintro %w2 HS7
  iapply (store_row m c 7 2 2 3 (by rfl) (by rfl) (by rfl)) $$ HS7
  iintro HS7
  iapply (load_row m c 7 3 3) $$ HS7
  iintro %w3 HS7
  iapply (store_row m c 7 3 3 4 (by rfl) (by rfl) (by rfl)) $$ HS7
  iintro HS7
  iapply (xfer m K c 7 7 8 (by rfl) (by rfl) (by rfl) (by rfl) (by rfl) (by rfl) (by exact dev_peer c _ (k0_dev9_eq c))) $$ [HS7 HB7 HT7 HO]
  · iframe # ∗
  iintro ⟨HG7, HO⟩
  ihave HO := (show owing (F := F) c (debt c 8) ⊢ owing c 0 by rw [debt_end]) $$ HO
  iapply (finish_send m K c 0 (by rfl) (by rfl)) $$ [HG0 HO]
  · iframe # ∗
  iintro ⟨HD0, HO⟩
  iapply (ended c)
  iapply Hk
  iframe

/-- Chunks 0 and 1 arrive from the neighbour; sends 1 and 2 are finished. -/
theorem part15 {v2 : BitVec 32} {v6 : BitVec 32} {Q : (PUnit) → sProp 𝕄} :
    iprop(ctx m K ∗ owing c 0 ∗ receiving c 0 ∗ sending c 1 ∗ receiving c 1 ∗ sending c 2)
      ⊢ iprop((iprop(received m c 0 ∗ sentDone m c 1 ∗ received m c 1 ∗ sentDone m c 2 ∗ owing c 0) -∗ Q ⟨⟩)
        -∗ WP c (k0_part15_skel (F := F) xM (Memref.isWhole_whole _) oM ho bM (Memref.isWhole_whole _) cc0_scratch1 sM (Memref.isWhole_whole _) rM (Memref.isWhole_whole _) cc0_scratch4 cc0_scratch5 v2 v6) Q) := by
  simp only [k0_part15_skel, Prog.lift, Prog.bind_op, Prog.bind_ret, Prog.pure_eq_ret, Prog.bind_assoc, semSignalWord, semWaitWord, wp_deviceId]
  iintro ⟨#HC, HO, HR0, HG1, HR1, HG2⟩ Hk
  iapply (finish_recv m K c 0 (by rfl) (by rfl)) $$ [HR0 HO]
  · iframe # ∗
  iintro ⟨HE0, HO⟩
  iapply (finish_send m K c 1 (by rfl) (by rfl)) $$ [HG1 HO]
  · iframe # ∗
  iintro ⟨HD1, HO⟩
  iapply (finish_recv m K c 1 (by rfl) (by rfl)) $$ [HR1 HO]
  · iframe # ∗
  iintro ⟨HE1, HO⟩
  iapply (finish_send m K c 2 (by rfl) (by rfl)) $$ [HG2 HO]
  · iframe # ∗
  iintro ⟨HD2, HO⟩
  iapply (ended c)
  iapply Hk
  iframe

/-- Chunks 2 and 3 arrive from the neighbour; sends 3 and 4 are finished. -/
theorem part16 {v2 : BitVec 32} {v6 : BitVec 32} {Q : (PUnit) → sProp 𝕄} :
    iprop(ctx m K ∗ owing c 0 ∗ receiving c 2 ∗ sending c 3 ∗ receiving c 3 ∗ sending c 4)
      ⊢ iprop((iprop(received m c 2 ∗ sentDone m c 3 ∗ received m c 3 ∗ sentDone m c 4 ∗ owing c 0) -∗ Q ⟨⟩)
        -∗ WP c (k0_part16_skel (F := F) xM (Memref.isWhole_whole _) oM ho bM (Memref.isWhole_whole _) cc0_scratch1 sM (Memref.isWhole_whole _) rM (Memref.isWhole_whole _) cc0_scratch4 cc0_scratch5 v2 v6) Q) := by
  simp only [k0_part16_skel, Prog.lift, Prog.bind_op, Prog.bind_ret, Prog.pure_eq_ret, Prog.bind_assoc, semSignalWord, semWaitWord, wp_deviceId]
  iintro ⟨#HC, HO, HR2, HG3, HR3, HG4⟩ Hk
  iapply (finish_recv m K c 2 (by rfl) (by rfl)) $$ [HR2 HO]
  · iframe # ∗
  iintro ⟨HE2, HO⟩
  iapply (finish_send m K c 3 (by rfl) (by rfl)) $$ [HG3 HO]
  · iframe # ∗
  iintro ⟨HD3, HO⟩
  iapply (finish_recv m K c 3 (by rfl) (by rfl)) $$ [HR3 HO]
  · iframe # ∗
  iintro ⟨HE3, HO⟩
  iapply (finish_send m K c 4 (by rfl) (by rfl)) $$ [HG4 HO]
  · iframe # ∗
  iintro ⟨HD4, HO⟩
  iapply (ended c)
  iapply Hk
  iframe

/-- Chunks 4 and 5 arrive from the neighbour; sends 5 and 6 are finished. -/
theorem part17 {v2 : BitVec 32} {v6 : BitVec 32} {Q : (PUnit) → sProp 𝕄} :
    iprop(ctx m K ∗ owing c 0 ∗ receiving c 4 ∗ sending c 5 ∗ receiving c 5 ∗ sending c 6)
      ⊢ iprop((iprop(received m c 4 ∗ sentDone m c 5 ∗ received m c 5 ∗ sentDone m c 6 ∗ owing c 0) -∗ Q ⟨⟩)
        -∗ WP c (k0_part17_skel (F := F) xM (Memref.isWhole_whole _) oM ho bM (Memref.isWhole_whole _) cc0_scratch1 sM (Memref.isWhole_whole _) rM (Memref.isWhole_whole _) cc0_scratch4 cc0_scratch5 v2 v6) Q) := by
  simp only [k0_part17_skel, Prog.lift, Prog.bind_op, Prog.bind_ret, Prog.pure_eq_ret, Prog.bind_assoc, semSignalWord, semWaitWord, wp_deviceId]
  iintro ⟨#HC, HO, HR4, HG5, HR5, HG6⟩ Hk
  iapply (finish_recv m K c 4 (by rfl) (by rfl)) $$ [HR4 HO]
  · iframe # ∗
  iintro ⟨HE4, HO⟩
  iapply (finish_send m K c 5 (by rfl) (by rfl)) $$ [HG5 HO]
  · iframe # ∗
  iintro ⟨HD5, HO⟩
  iapply (finish_recv m K c 5 (by rfl) (by rfl)) $$ [HR5 HO]
  · iframe # ∗
  iintro ⟨HE5, HO⟩
  iapply (finish_send m K c 6 (by rfl) (by rfl)) $$ [HG6 HO]
  · iframe # ∗
  iintro ⟨HD6, HO⟩
  iapply (ended c)
  iapply Hk
  iframe

end Cert.KernelIdeal.Mean

end
-- ==== Proof.PartsEnd.lean ====
/- The end of the kernel's text: the last waits, both buffers of sums whole again, and the result stored. -/
module

public import proofs.«01_k».proof.Proof.Ops

@[expose] public section

noncomputable section

namespace Cert.KernelIdeal.Mean

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-- Eight holdings, one by one. -/
theorem eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## The buffers cut into their slices and whole again -/

/-- A buffer of a device, whole. -/
abbrev wholePts (b : Ref sig .tc) (f : Buf (Elt F) ((c : Thread nD τ).loc b)) : sProp 𝕄 := ((c : Thread nD τ).loc b) ↦{fullShare} f

theorem send_cut (f : S32x128.Idx → Elt F .f32) :
    (wholePts c cc0_scratch2 f : sProp 𝕄) = bigSep Finset.univ fun k : Fin 8 => sendPts c k f :=
  (Ring.pointsTo_blocks (ℓ := (c : Thread nD τ).loc cc0_scratch2) (fun k : Fin 8 => (rowsR k).set) rows_disjoint rows_cover f).trans
    (bigSep_congr fun k _ => by unfold sendPts; rw [set_send])
theorem recv_cut (f : S32x128.Idx → Elt F .f32) :
    (wholePts c cc0_scratch3 f : sProp 𝕄) = bigSep Finset.univ fun k : Fin 8 => recvPts c k f :=
  (Ring.pointsTo_blocks (ℓ := (c : Thread nD τ).loc cc0_scratch3) (fun k : Fin 8 => (rowsR k).set) rows_disjoint rows_cover f).trans
    (bigSep_congr fun k _ => by unfold recvPts; rw [set_recv])
theorem x_cut : (wholePts c main_arg0 (xs m c) : sProp 𝕄) = bigSep Finset.univ fun k : Fin 8 => xPts m c k :=
  (Ring.pointsTo_blocks (ℓ := (c : Thread nD τ).loc main_arg0) (fun k : Fin 8 => (chunkR k).set) chunks_disjoint chunks_cover (xs m c)).trans
    (bigSep_congr fun k _ => by unfold xPts; rw [set_chunk])
theorem slot_cut (f : S4x512x1024.Idx → Elt F .f32) :
    (wholePts c cc0_scratch0 f : sProp 𝕄) = bigSep Finset.univ fun s : Fin 4 => slotPts c s f :=
  (Ring.pointsTo_blocks (ℓ := (c : Thread nD τ).loc cc0_scratch0) (fun s : Fin 4 => (slotR s).set) slots_disjoint slots_cover f).trans
    (bigSep_congr fun s _ => by unfold slotPts; rw [set_slot])
/-- The four slots, each at contents of its own, are the landing buffer at some contents. -/
theorem slot_join (f₀ : S4x512x1024.Idx → Elt F .f32) :
    (bigSep Finset.univ fun s : Fin 4 => iprop(∃ f, slotPts (F := F) c s f)) ⊢ (iprop(∃ f, wholePts c cc0_scratch0 f) : sProp 𝕄) :=
  (Entails.of_eq (bigSep_congr fun s _ => by unfold slotPts; rw [set_slot]; rfl)).trans
    (Ring.pointsTo_blocks_join_exists (ℓ := (c : Thread nD τ).loc cc0_scratch0) (fun s : Fin 4 => (slotR s).set) slots_disjoint slots_cover f₀)

/-- All sends finished: the sent buffer is whole, at the device's sums. -/
theorem all_sent : (bigSep Finset.univ fun k : Fin 8 => sentDone m c k)
    ⊢ iprop(wholePts c cc0_scratch2 (part m c) ∗ bigSep Finset.univ fun k : Fin 8 => (atPos ER (sendCell c k) 1 ∅ 0 : sProp 𝕄)) := by
  unfold sentDone
  rw [bigSep_sep', send_cut]
/-- All sums received: the received buffer is whole, at the neighbour's sums. -/
theorem all_received : (bigSep Finset.univ fun k : Fin 8 => received m c k)
    ⊢ iprop(wholePts c cc0_scratch3 (part m (peer c)) ∗ bigSep Finset.univ fun k : Fin 8 => (atPos ER (recvCell c k) 1 ∅ 0 : sProp 𝕄)) := by
  unfold received
  rw [bigSep_sep', recv_cut]

/-! ## A whole buffer loaded and stored -/

theorem zero_off : (![0, 0] : Fin 2 → Nat) = fun _ => 0 := by funext a; match a with | ⟨0, _⟩ => rfl | ⟨1, _⟩ => rfl

/-- The whole of a 32 by 128 buffer, as the kernel addresses it. -/
abbrev allR : Rect S32x128 := Rect.unit (s := S32x128) ![0, 0] S32x128.size inb_S32x128_S32x128_0_0

variable {α : Type}

theorem load_sent {hl : sM.view.LoadsAt allR.toLoadRect} (f : S32x128.Idx → Elt F .f32)
    {kk : Vec F S32x128 .f32 → Prog (TpuEff nD τ sig (Elt F) Λ₀ .tc) α} {Q : α → sProp 𝕄} :
    wholePts c cc0_scratch2 f
      ⊢ iprop((wholePts c cc0_scratch2 f -∗ WP c (kk f) Q) -∗ WP c (.op (.load sM allR.toLoadRect hl) kk) Q) := by
  iintro H Hk
  iapply (wp_load_rect 𝒱₀ (c : Thread nD τ) none Set.univ (m := sM) (r := allR) (f := f) (Finset.subset_univ _)) $$ H
  iintro H
  rw [show (sM.access allR).read (Elt F) f = f from Memref.read_access_unit_zero (Elt F) cc0_scratch2 zero_off _ f]
  iapply Hk $$ H
theorem load_received {hl : rM.view.LoadsAt allR.toLoadRect} (f : S32x128.Idx → Elt F .f32)
    {kk : Vec F S32x128 .f32 → Prog (TpuEff nD τ sig (Elt F) Λ₀ .tc) α} {Q : α → sProp 𝕄} :
    wholePts c cc0_scratch3 f
      ⊢ iprop((wholePts c cc0_scratch3 f -∗ WP c (kk f) Q) -∗ WP c (.op (.load rM allR.toLoadRect hl) kk) Q) := by
  iintro H Hk
  iapply (wp_load_rect 𝒱₀ (c : Thread nD τ) none Set.univ (m := rM) (r := allR) (f := f) (Finset.subset_univ _)) $$ H
  iintro H
  rw [show (rM.access allR).read (Elt F) f = f from Memref.read_access_unit_zero (Elt F) cc0_scratch3 zero_off _ f]
  iapply Hk $$ H
/-- The kernel reads the result's buffer before it overwrites it; what it reads is not used. -/
theorem load_result {hl : (Memref.whole cc0_stg0_0 : Memref sig .tc .vmem S32x128 .f32).view.LoadsAt allR.toLoadRect} (f : S32x128.Idx → Elt F .f32)
    {kk : Vec F S32x128 .f32 → Prog (TpuEff nD τ sig (Elt F) Λ₀ .tc) α} {Q : α → sProp 𝕄} :
    wholePts c cc0_stg0_0 f
      ⊢ iprop((∀ w, wholePts c cc0_stg0_0 f -∗ WP c (kk w) Q)
        -∗ WP c (.op (.load (Memref.whole cc0_stg0_0 : Memref sig .tc .vmem S32x128 .f32) allR.toLoadRect hl) kk) Q) := by
  iintro H Hk
  iapply (wp_load_rect 𝒱₀ (c : Thread nD τ) none Set.univ (m := (Memref.whole cc0_stg0_0 : Memref sig .tc .vmem S32x128 .f32)) (r := allR) (f := f) (Finset.subset_univ _)) $$ H
  iintro H
  iapply Hk $$ H
theorem store_result (f w : S32x128.Idx → Elt F .f32)
    {hx : ((Memref.whole cc0_stg0_0 : Memref sig .tc .vmem S32x128 .f32).access allR).Stores Finset.univ}
    {hm : (Finset.univ : Finset allR.shape.Idx) = Finset.univ ∨ ∀ a, allR.stride a = 1}
    {kk : PUnit → Prog (TpuEff nD τ sig (Elt F) Λ₀ .tc) α} {Q : α → sProp 𝕄} :
    wholePts c cc0_stg0_0 f
      ⊢ iprop((wholePts c cc0_stg0_0 w -∗ WP c (kk ⟨⟩) Q)
        -∗ WP c (.op (.store (Memref.whole cc0_stg0_0 : Memref sig .tc .vmem S32x128 .f32) allR w Finset.univ hx hm) kk) Q) := by
  iintro H Hk
  iapply (wp_store 𝒱₀ (c : Thread nD τ) none Set.univ (m := (Memref.whole cc0_stg0_0 : Memref sig .tc .vmem S32x128 .f32)) (r := allR) (f := f)
    (Finset.subset_univ _)) $$ H
  iintro H
  rw [show ((Memref.whole cc0_stg0_0 : Memref sig .tc .vmem S32x128 .f32).access allR).write (Elt F) f w Finset.univ = w from
    Memref.write_access_unit_zero_univ (Elt F) cc0_stg0_0 zero_off _ f w]
  iapply Hk $$ H

/-! ## The last part -/

/-- The last chunks arrive; the result is stored. -/
theorem part18 {ho : (Memref.whole cc0_stg0_0 : Memref sig .tc .vmem S32x128 .f32).IsWhole} {v2 v6 : BitVec 32} {Q : PUnit → sProp 𝕄}
    (g : S32x128.Idx → Elt F .f32) :
    iprop(ctx m K ∗ owing c 0 ∗ receiving c 6 ∗ sending c 7 ∗ receiving c 7 ∗ wholePts c cc0_stg0_0 g
        ∗ sentDone m c 0 ∗ sentDone m c 1 ∗ sentDone m c 2 ∗ sentDone m c 3 ∗ sentDone m c 4 ∗ sentDone m c 5 ∗ sentDone m c 6 ∗ received m c 0 ∗ received m c 1 ∗ received m c 2 ∗ received m c 3 ∗ received m c 4 ∗ received m c 5)
      ⊢ iprop((iprop(owing c 0 ∗ wholePts c cc0_scratch2 (part m c) ∗ wholePts c cc0_scratch3 (part m (peer c)) ∗ wholePts c cc0_stg0_0 (outC m c)
          ∗ (bigSep Finset.univ fun k : Fin 8 => (atPos ER (sendCell c k) 1 ∅ 0 : sProp 𝕄))
          ∗ bigSep Finset.univ fun k : Fin 8 => (atPos ER (recvCell c k) 1 ∅ 0 : sProp 𝕄)) -∗ Q ⟨⟩)
        -∗ WP c (k0_part18_skel (F := F) xM (Memref.isWhole_whole _) (Memref.whole cc0_stg0_0) ho bM (Memref.isWhole_whole _) cc0_scratch1 sM (Memref.isWhole_whole _) rM (Memref.isWhole_whole _) cc0_scratch4 cc0_scratch5 v2 v6) Q) := by
  simp only [k0_part18_skel, Prog.lift, Prog.bind_op, Prog.bind_ret, Prog.pure_eq_ret, Prog.bind_assoc]
  iintro ⟨#HC, HO, HR6, HG7, HR7, HW, HD0, HD1, HD2, HD3, HD4, HD5, HD6, HE0, HE1, HE2, HE3, HE4, HE5⟩ Hk
  iapply (finish_recv m K c 6 (by rfl) (by rfl)) $$ [HR6 HO]
  · iframe # ∗
  iintro ⟨HE6, HO⟩
  iapply (finish_send m K c 7 (by rfl) (by rfl)) $$ [HG7 HO]
  · iframe # ∗
  iintro ⟨HD7, HO⟩
  iapply (finish_recv m K c 7 (by rfl) (by rfl)) $$ [HR7 HO]
  · iframe # ∗
  iintro ⟨HE7, HO⟩
  ihave HD := (all_sent m c) $$ [HD0 HD1 HD2 HD3 HD4 HD5 HD6 HD7]
  · rw [eight]; iframe
  ihave HE := (all_received m c) $$ [HE0 HE1 HE2 HE3 HE4 HE5 HE6 HE7]
  · rw [eight]; iframe
  icases HD with ⟨Hs, HaS⟩
  icases HE with ⟨Hr, HaR⟩
  iapply (load_sent c (part m c)) $$ Hs
  iintro Hs
  iapply (load_received c (part m (peer c))) $$ Hr
  iintro Hr
  iapply (load_result c g) $$ HW
  iintro %w HW
  iapply (store_result c g) $$ HW
  iintro HW
  iapply (ended c)
  iapply Hk
  unfold outC
  iframe

end Cert.KernelIdeal.Mean

end
-- ==== Proof.Body.lean ====
/- The kernel's run on one device, its parts one after another. -/
module

public import proofs.«01_k».proof.Proof.PartsA
public import proofs.«01_k».proof.Proof.PartsB
public import proofs.«01_k».proof.Proof.PartsEnd

@[expose] public section

noncomputable section

namespace Cert.KernelIdeal.Mean

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : GSem nD τ sig → ℕ) (c : Dev nD)

/-- The chunk whose copy is the first into slot `s`, and the one whose copy is the second. -/
abbrev firstOf (s : Fin 4) : Fin 8 := ⟨s.val, by omega⟩
abbrev secondOf (s : Fin 4) : Fin 8 := ⟨4 + s.val, by omega⟩

/-- The slots before any copy. -/
theorem slots_begin : (bigSep Finset.univ fun s : Fin 4 => slotFree (F := F) c (firstOf s))
    = iprop(slotFree c 0 ∗ slotFree c 1 ∗ slotFree c 2 ∗ slotFree c 3) := four _
/-- The slots after their second copies. -/
theorem slots_end : (bigSep Finset.univ fun s : Fin 4 => arrived m c (secondOf s))
    = iprop(arrived m c 4 ∗ arrived m c 5 ∗ arrived m c 6 ∗ arrived m c 7) := four _

/-- What the kernel starts from on a device. -/
def begun (g : S32x128.Idx → Elt F .f32) : sProp 𝕄 :=
  iprop((bigSep Finset.univ fun k : Fin 8 => fetchable m c k) ∗ (bigSep Finset.univ fun s : Fin 4 => slotFree c (firstOf s))
    ∗ (bigSep Finset.univ fun k : Fin 8 => iprop(∃ f, sendPts (F := F) c k f)) ∗ (bigSep Finset.univ fun k : Fin 8 => sendable (F := F) c k)
    ∗ (bigSep Finset.univ fun k : Fin 8 => receiving (F := F) c k)
    ∗ owing c (O₀ c) ∗ dutyTok ER (barCell (peer c)) 0 () ∗ lend (F := F) c ∗ reached ER (barCell (peer c)) 0
    ∗ cred (tallyAt (barCell c) () 1) ∗ atPos ER (barCell c) 0 ∅ 0 ∗ wholePts c cc0_stg0_0 g)
/-- What it ends with. -/
def finished : sProp 𝕄 :=
  iprop(owing c 0 ∗ (bigSep Finset.univ fun k : Fin 8 => xPts m c k) ∗ (bigSep Finset.univ fun s : Fin 4 => arrived m c (secondOf s))
    ∗ atPos ER (barCell c) 1 ∅ 0 ∗ wholePts c cc0_scratch2 (part m c) ∗ wholePts c cc0_scratch3 (part m (peer c)) ∗ wholePts c cc0_stg0_0 (outC m c)
    ∗ (bigSep Finset.univ fun k : Fin 8 => (atPos ER (sendCell c k) 1 ∅ 0 : sProp 𝕄))
    ∗ bigSep Finset.univ fun k : Fin 8 => (atPos ER (recvCell c k) 1 ∅ 0 : sProp 𝕄))

set_option maxHeartbeats 4000000 in
/-- The kernel's run. -/
theorem kernel {ho : (Memref.whole cc0_stg0_0 : Memref sig .tc .vmem S32x128 .f32).IsWhole} {Q : PUnit → sProp 𝕄} (g : S32x128.Idx → Elt F .f32) :
    iprop(ctx m K ∗ begun m c g)
      ⊢ iprop((finished m c -∗ |={Set.univ}=> Q ⟨⟩)
        -∗ WP c (cc0_body (F := F) xM (Memref.isWhole_whole _) (Memref.whole cc0_stg0_0) ho bM (Memref.isWhole_whole _) cc0_scratch1 sM (Memref.isWhole_whole _) rM (Memref.isWhole_whole _) cc0_scratch4 cc0_scratch5) Q) := by
  rw [cc0_body_eq_skeleton]
  unfold begun finished WP
  rw [slots_begin, slots_end, eight (fun k => fetchable m c k), eight (fun k => iprop(∃ f, sendPts (F := F) c k f)), eight (fun k => sendable (F := F) c k),
    eight (fun k => receiving (F := F) c k), eight (fun k => xPts m c k)]
  unfold cc0_body_skel
  iintro ⟨#HC, ⟨HF0, HF1, HF2, HF3, HF4, HF5, HF6, HF7⟩, ⟨HV0, HV1, HV2, HV3⟩, ⟨HS0, HS1, HS2, HS3, HS4, HS5, HS6, HS7⟩, ⟨HB0, HB1, HB2, HB3, HB4, HB5, HB6, HB7⟩, ⟨HR0, HR1, HR2, HR3, HR4, HR5, HR6, HR7⟩, HO, HP, HL, #HQ, HC1, HC2, HW⟩ Hk
  ihave HS0 := (sums_start m c 0) $$ HS0
  ihave HS1 := (sums_start m c 1) $$ HS1
  ihave HS2 := (sums_start m c 2) $$ HS2
  ihave HS3 := (sums_start m c 3) $$ HS3
  ihave HS4 := (sums_start m c 4) $$ HS4
  ihave HS5 := (sums_start m c 5) $$ HS5
  ihave HS6 := (sums_start m c 6) $$ HS6
  ihave HS7 := (sums_start m c 7) $$ HS7
  rw [k0_part1_eq_skeleton, wp_bind]
  iapply (part1 m K c) $$ [HF0 HV0 HF1 HV1 HF2 HV2]
  · iframe # ∗
  iintro ⟨HY0, HY1, HY2⟩ %v2 %v6
  try dsimp only
  rw [k0_part2_eq_skeleton, wp_bind]
  iapply (part2 m K c) $$ [HF3 HV3 HO HP HL HC1 HC2 HY0 HS0]
  · iframe # ∗
  iintro ⟨HY3, HC3, HTT, HA0, HX0, HO, HS0⟩
  try dsimp only
  ihave HTT := (Entails.of_eq (eight (fun k => target (F := F) c k))) $$ HTT
  icases HTT with ⟨HT0, HT1, HT2, HT3, HT4, HT5, HT6, HT7⟩
  rw [k0_part3_eq_skeleton, wp_bind]
  iapply (part3 m K c) $$ [HS0 HB0 HT0 HO HA0 HF4]
  · iframe # ∗
  iintro ⟨HG0, HO, HY4⟩
  try dsimp only
  rw [k0_part4_eq_skeleton, wp_bind]
  iapply (part4 m K c) $$ [HY1 HO HS1]
  · iframe # ∗
  iintro ⟨HA1, HX1, HO, HS1⟩
  try dsimp only
  rw [k0_part5_eq_skeleton, wp_bind]
  iapply (part5 m K c) $$ [HS1 HB1 HT1 HO HA1 HF5 HY2]
  · iframe # ∗
  iintro ⟨HG1, HY5, HA2, HX2, HO⟩
  try dsimp only
  rw [k0_part6_eq_skeleton, wp_bind]
  iapply (part6 m K c) $$ [HS2]
  · iframe # ∗
  iintro ⟨HS2⟩
  try dsimp only
  rw [k0_part7_eq_skeleton, wp_bind]
  iapply (part7 m K c) $$ [HS2 HB2 HT2 HO HA2 HF6 HY3 HS3]
  · iframe # ∗
  iintro ⟨HG2, HY6, HA3, HX3, HO, HS3⟩
  try dsimp only
  rw [k0_part8_eq_skeleton, wp_bind]
  iapply (part8 m K c) $$ [HS3 HB3 HT3 HO HA3 HF7]
  · iframe # ∗
  iintro ⟨HG3, HO, HY7⟩
  try dsimp only
  rw [k0_part9_eq_skeleton, wp_bind]
  iapply (part9 m K c) $$ [HY4 HO HS4]
  · iframe # ∗
  iintro ⟨HA4, HX4, HO, HS4⟩
  try dsimp only
  rw [k0_part10_eq_skeleton, wp_bind]
  iapply (part10 m K c) $$ [HS4 HB4 HT4 HO HY5 HS5]
  · iframe # ∗
  iintro ⟨HG4, HA5, HX5, HO, HS5⟩ %w
  try dsimp only
  rw [k0_part11_eq_skeleton, wp_bind]
  iapply (part11 m K c) $$ [HS5 HB5 HT5 HO]
  · iframe # ∗
  iintro ⟨HG5, HO⟩
  try dsimp only
  rw [k0_part12_eq_skeleton, wp_bind]
  iapply (part12 m K c) $$ [HY6 HO HS6]
  · iframe # ∗
  iintro ⟨HA6, HX6, HO, HS6⟩
  try dsimp only
  rw [k0_part13_eq_skeleton, wp_bind]
  iapply (part13 m K c) $$ [HS6 HB6 HT6 HO HY7 HS7]
  · iframe # ∗
  iintro ⟨HG6, HA7, HX7, HO, HS7⟩
  try dsimp only
  rw [k0_part14_eq_skeleton, wp_bind]
  iapply (part14 m K c) $$ [HS7 HB7 HT7 HO HG0]
  · iframe # ∗
  iintro ⟨HG7, HD0, HO⟩
  try dsimp only
  rw [k0_part15_eq_skeleton, wp_bind]
  iapply (part15 m K c) $$ [HO HR0 HG1 HR1 HG2]
  · iframe # ∗
  iintro ⟨HE0, HD1, HE1, HD2, HO⟩
  try dsimp only
  rw [k0_part16_eq_skeleton, wp_bind]
  iapply (part16 m K c) $$ [HO HR2 HG3 HR3 HG4]
  · iframe # ∗
  iintro ⟨HE2, HD3, HE3, HD4, HO⟩
  try dsimp only
  rw [k0_part17_eq_skeleton, wp_bind]
  iapply (part17 m K c) $$ [HO HR4 HG5 HR5 HG6]
  · iframe # ∗
  iintro ⟨HE4, HD5, HE5, HD6, HO⟩
  try dsimp only
  rw [k0_part18_eq_skeleton, wp_bind]
  iapply (part18 m K c g) $$ [HO HR6 HG7 HR7 HW HD0 HD1 HD2 HD3 HD4 HD5 HD6 HE0 HE1 HE2 HE3 HE4 HE5]
  · iframe # ∗
  iintro ⟨HO, Hs, Hr, HW, HaS, HaR⟩
  rw [show (pure PUnit.unit : Prog (TpuEff nD τ sig (Elt F) Λ₀ .tc) PUnit) = .ret PUnit.unit from rfl, wp_ret]
  iapply Hk
  iframe

end Cert.KernelIdeal.Mean

end
-- ==== Proof.Around.lean ====
/- A device's holdings around the kernel: its cells opened before the run and closed after it, its buffers cut and whole again. -/
module

public import proofs.«01_k».proof.Proof.Body

@[expose] public section

noncomputable section

namespace Cert.KernelIdeal.Mean

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

variable (K : GSem nD τ sig → ℕ) (c : Dev nD)

instance allInvs_persistent : BI.Persistent (allInvs m K) := by unfold allInvs; infer_instance

/-- A device's own cells by their use: four for copies, eight for sends, eight for receives. -/
theorem split20 (Φ : Fin 20 → sProp 𝕄) : bigSep Finset.univ Φ
    = iprop((bigSep Finset.univ fun s : Fin 4 => Φ ⟨s.val, by omega⟩) ∗ (bigSep Finset.univ fun k : Fin 8 => Φ ⟨4 + k.val, by omega⟩)
      ∗ bigSep Finset.univ fun k : Fin 8 => Φ ⟨12 + k.val, by omega⟩) := by
  rw [four, eight, eight, bigSep_univ_eq_bigSepL [0, 1, 2, 3, 4, 5, 6, 7, 8, 9, 10, 11, 12, 13, 14, 15, 16, 17, 18, 19] (by decide) (by decide) Φ]
  show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19)
    = iprop((Φ 0 ∗ Φ 1 ∗ Φ 2 ∗ Φ 3) ∗ (Φ 4 ∗ Φ 5 ∗ Φ 6 ∗ Φ 7 ∗ Φ 8 ∗ Φ 9 ∗ Φ 10 ∗ Φ 11) ∗ Φ 12 ∗ Φ 13 ∗ Φ 14 ∗ Φ 15 ∗ Φ 16 ∗ Φ 17 ∗ Φ 18 ∗ Φ 19)
  refine BI.equiv_iff.mp ⟨?_, ?_⟩
  · show (_ : sProp 𝕄) ⊢ _
    iintro ⟨H0, H1, H2, H3, H4, H5, H6, H7, H8, H9, H10, H11, H12, H13, H14, H15, H16, H17, H18, H19⟩; iframe
  · show (_ : sProp 𝕄) ⊢ _
    iintro ⟨⟨H0, H1, H2, H3⟩, ⟨H4, H5, H6, H7, H8, H9, H10, H11⟩, H12, H13, H14, H15, H16, H17, H18, H19⟩; iframe

/-- A device's own cells, split; the cells named by their use. -/
theorem own_split (Φ : GSem nD τ sig → sProp 𝕄) : (bigSep Finset.univ fun i : Fin 20 => Φ (ownCell c i))
    = iprop((bigSep Finset.univ fun s : Fin 4 => Φ (copyCell c s)) ∗ (bigSep Finset.univ fun k : Fin 8 => Φ (sendCell c k))
      ∗ bigSep Finset.univ fun k : Fin 8 => Φ (recvCell c k)) := by
  rw [split20]
  refine congrArg₂ (fun a b : sProp 𝕄 => iprop(a ∗ b)) rfl (congrArg₂ (fun a b : sProp 𝕄 => iprop(a ∗ b)) ?_ ?_)
  · exact bigSep_congr fun k _ => congrArg Φ (own_send c k)
  · exact bigSep_congr fun k _ => congrArg Φ (own_recv c k)

/-- The tokens of the payments a device makes. -/
def toks : sProp 𝕄 :=
  iprop(dutyTok ER (barCell (peer c)) 0 () ∗ (bigSep Finset.univ fun k : Fin 8 => dutyTok ER (copyCell c (slotOf k)) (k.val / 4) ())
    ∗ (bigSep Finset.univ fun k : Fin 8 => dutyTok ER (sendCell c k) 0 ()) ∗ bigSep Finset.univ fun k : Fin 8 => dutyTok ER (recvCell (peer c) k) 0 ())

/-- The credits a device starts with: what its neighbour owes it. -/
def dues : sProp 𝕄 :=
  iprop(cred (tallyAt (barCell c) () 1) ∗ bigSep Finset.univ fun k : Fin 8 => cred (tallyAt (recvCell c k) () NX))

/-- What the launch keeps for the kernel. -/
def Tk : sProp 𝕄 :=
  iprop((∃ K, allInvs m K ∗ atPos ER (barCell c) 0 ∅ 0 ∗ reached ER (barCell (peer c)) 0
    ∗ (bigSep Finset.univ fun i : Fin 20 => openTok ER (ownCell c i)) ∗ toks c) ∗ dues c)

/-- What the kernel starts from, its cells open. -/
def Xk : sProp 𝕄 :=
  iprop((∃ K, ctx m K ∗ atPos ER (barCell c) 0 ∅ 0 ∗ reached ER (barCell (peer c)) 0
    ∗ (bigSep Finset.univ fun i : Fin 20 => iprop(atPos ER (ownCell c i) 0 ∅ 0 ∗ reached ER (ownCell c i) 0)) ∗ toks c) ∗ dues c)

/-- The kernel's own semaphores. -/
abbrev osem : Fin 20 → SemLoc sig := fun i => .dma (ownS i)

/-- Opening the own cells. -/
theorem opening : iprop(Tk m c ∗ Pipeline.ownSems0 osem c ∗ levAts L lv) ⊢ (|={Set.univ}=> Xk m c : sProp 𝕄) := by
  rw [show (Pipeline.ownSems0 osem c : sProp 𝕄) = bigSep Finset.univ fun i : Fin 20 => semVal (ownCell c i) 0 from rfl]
  unfold Tk Xk
  iintro ⟨⟨⟨%K, #HI, Ha, #Hr, Ho, Ht⟩, Hd⟩, Hv, #Hl⟩
  ihave HC := (show iprop(allInvs m K ∗ levAts L lv) ⊢ ctx m K from by unfold ctx; iintro H; iexact H) $$ []
  · isplitr; · iexact HI
    iexact Hl
  icases HC with #HC
  imod (show iprop(ctx m K ∗ bigSep Finset.univ fun i : Fin 20 => iprop(openTok ER (ownCell c i) ∗ semVal (ownCell c i) 0))
      ⊢ (|={Set.univ}=> bigSep Finset.univ fun i : Fin 20 => iprop(atPos ER (ownCell c i) 0 ∅ 0 ∗ reached ER (ownCell c i) 0) : sProp 𝕄) from
    (bigSep_with_persistent (fun i _ => by
      iintro ⟨#HC, Ho, Hv⟩
      iapply (Rounds.cell_open ER (sched m) (g := ownCell c i) (κ := K (ownCell c i)) (Set.mem_univ _))
      isplitr; · iapply (inv_own m K c i) $$ HC
      isplitl [Ho] <;> iassumption)).trans (bigSep_fupd _ _)) $$ [Ho Hv] with H
  · isplitr; · iexact HC
    iapply (Entails.of_eq (bigSep_sep' Finset.univ _ _).symm)
    isplitl [Ho]; · iexact Ho
    iexact Hv
  imodintro
  isplitr [Hd]
  · iexists K
    isplitr; · iexact HC
    isplitl [Ha]; · iexact Ha
    isplitr; · iexact Hr
    isplitl [H]; · iexact H
    iexact Ht
  iexact Hd

/-! ## Before the run -/

theorem slotFree_first (s : Fin 4) : slotFree (F := F) c (firstOf s)
    = iprop((∃ f, slotPts c s f) ∗ atPos ER (copyCell c s) 0 ∅ 0 ∗ reached ER (copyCell c s) 0) := by
  have h1 : slotOf (firstOf s) = s := by revert s; decide
  have h2 : (firstOf s).val / 4 = 0 := by revert s; decide
  unfold slotFree; rw [h1, h2]
theorem arrived_second (s : Fin 4) : arrived m c (secondOf s)
    = iprop(slotPts c s (bufC m c (secondOf s)) ∗ atPos ER (copyCell c s) 2 ∅ 0 ∗ reached ER (copyCell c s) 2) := by
  have h1 : slotOf (secondOf s) = s := by revert s; decide
  have h2 : (secondOf s).val / 4 = 1 := by revert s; decide
  unfold arrived; rw [h1, h2]

/-- The scratch buffers, at contents not chosen. -/
def scratch : sProp 𝕄 := iprop((∃ f, wholePts c cc0_scratch0 f) ∗ (∃ f, wholePts c cc0_scratch2 f) ∗ ∃ f, wholePts c cc0_scratch3 f)

theorem each_slot : (iprop(∃ f, wholePts c cc0_scratch0 f) : sProp 𝕄) ⊢ bigSep Finset.univ fun s : Fin 4 => iprop(∃ f, slotPts (F := F) c s f) := by
  iintro ⟨%f, H⟩
  ihave H := (Entails.of_eq (slot_cut c f)) $$ H
  iapply (show (bigSep Finset.univ fun s : Fin 4 => (slotPts c s f : sProp 𝕄)) ⊢ bigSep Finset.univ fun s : Fin 4 => iprop(∃ f, slotPts (F := F) c s f) from
    bigSep_mono fun s _ => (show (_ : sProp 𝕄) ⊢ _ from by iintro H; iexists f; iexact H)) $$ H
theorem each_send : (iprop(∃ f, wholePts c cc0_scratch2 f) : sProp 𝕄) ⊢ bigSep Finset.univ fun k : Fin 8 => iprop(∃ f, sendPts (F := F) c k f) := by
  iintro ⟨%f, H⟩
  ihave H := (Entails.of_eq (send_cut c f)) $$ H
  iapply (show (bigSep Finset.univ fun k : Fin 8 => (sendPts c k f : sProp 𝕄)) ⊢ bigSep Finset.univ fun k : Fin 8 => iprop(∃ f, sendPts (F := F) c k f) from
    bigSep_mono fun s _ => (show (_ : sProp 𝕄) ⊢ _ from by iintro H; iexists f; iexact H)) $$ H
theorem each_recv : (iprop(∃ f, wholePts c cc0_scratch3 f) : sProp 𝕄) ⊢ bigSep Finset.univ fun k : Fin 8 => iprop(∃ f, recvPts (F := F) c k f) := by
  iintro ⟨%f, H⟩
  ihave H := (Entails.of_eq (recv_cut c f)) $$ H
  iapply (show (bigSep Finset.univ fun k : Fin 8 => (recvPts c k f : sProp 𝕄)) ⊢ bigSep Finset.univ fun k : Fin 8 => iprop(∃ f, recvPts (F := F) c k f) from
    bigSep_mono fun s _ => (show (_ : sProp 𝕄) ⊢ _ from by iintro H; iexists f; iexact H)) $$ H

/-- The kernel's holdings dealt out to its chunks. -/
theorem entering (g : S32x128.Idx → Elt F .f32) :
    iprop(Xk m c ∗ scratch c ∗ wholePts c main_arg0 (xs m c) ∗ owing c (O₀ c) ∗ wholePts c cc0_stg0_0 g) ⊢ iprop(∃ K, ctx m K ∗ begun m c g) := by
  unfold Xk scratch begun toks dues fetchable sendable receiving lend
  rw [bigSep_congr (fun s _ => slotFree_first (F := F) c s), x_cut, bigSep_sep', bigSep_sep', bigSep_sep', bigSep_sep', bigSep_sep', bigSep_sep', bigSep_sep', bigSep_sep',
    bigSep_sep', own_split c (fun g => atPos ER g 0 ∅ 0), own_split c (fun g => reached ER g 0)]
  iintro ⟨⟨⟨%K, #HC, HaB, #HrB, ⟨⟨HaC, HaS, HaR⟩, ⟨HrC, HrS, HrR⟩⟩, HtB, HtC, HtS, HtR⟩, HcB, HcR⟩, ⟨Hb, Hs, Hr⟩, Hx, HO, HW⟩
  ihave Hb := (each_slot c) $$ Hb
  ihave Hs := (each_send c) $$ Hs
  ihave Hr := (each_recv c) $$ Hr
  iexists K
  isplitr; · iexact HC
  iframe # ∗

/-! ## After the run -/

/-- The rounds an own cell has gone through. -/
def ownR (i : Fin 20) : ℕ := if i.val < 4 then 2 else 1

theorem own_done : ∀ i : Fin 20, roundsOf (role (.dma (ownS i))) ≤ ownR i := by
  intro i
  have h := i.isLt
  unfold ownR
  dsimp only [role]
  split
  · omega
  · split
    · rw [if_pos (by omega)]; exact le_refl 2
    · rw [if_neg (by omega)]
      split <;> exact le_refl 1

/-- Closing the cells: every counter is at zero. -/
theorem closing : iprop(ctx m K ∗ atPos ER (barCell c) 1 ∅ 0 ∗ bigSep Finset.univ fun i : Fin 20 => atPos ER (ownCell c i) (ownR i) ∅ 0)
    ⊢ (|={Set.univ}=> iprop(semVal (barCell c) 0 ∗ Pipeline.ownSems0 osem c) : sProp 𝕄) := by
  rw [show (Pipeline.ownSems0 osem c : sProp 𝕄) = bigSep Finset.univ fun i : Fin 20 => semVal (ownCell c i) 0 from rfl]
  iintro ⟨#HC, HB, HO⟩
  imod (Rounds.cell_close ER (sched m) (g := barCell c) (κ := K (barCell c)) (Set.mem_univ _) (hu := id) (no_duty m (R := 1) role_bar (le_refl 1))) $$ [HB] with HB
  · isplitr; · iapply (inv_bar m K c) $$ HC
    iexact HB
  imod (show iprop(ctx m K ∗ bigSep Finset.univ fun i : Fin 20 => (atPos ER (ownCell c i) (ownR i) ∅ 0 : sProp 𝕄))
      ⊢ (|={Set.univ}=> bigSep Finset.univ fun i : Fin 20 => (semVal (ownCell c i) 0 : sProp 𝕄)) from
    (bigSep_with_persistent (fun i _ => by
      iintro ⟨#HC, HO⟩
      iapply (Rounds.cell_close ER (sched m) (g := ownCell c i) (κ := K (ownCell c i)) (Set.mem_univ _) (hu := id) (no_duty m (R := ownR i) rfl (own_done i)))
      isplitr; · iapply (inv_own m K c i) $$ HC
      iexact HO)).trans (bigSep_fupd _ _)) $$ [HO] with HO
  · isplitr; · iexact HC
    iexact HO
  imodintro
  isplitl [HB]; · iexact HB
  iexact HO

/-- The positions the run leaves the own cells at. -/
theorem positions : iprop((bigSep Finset.univ fun s : Fin 4 => (atPos ER (copyCell c s) 2 ∅ 0 : sProp 𝕄)) ∗ (bigSep Finset.univ fun k : Fin 8 => (atPos ER (sendCell c k) 1 ∅ 0 : sProp 𝕄))
      ∗ bigSep Finset.univ fun k : Fin 8 => (atPos ER (recvCell c k) 1 ∅ 0 : sProp 𝕄))
    ⊢ bigSep Finset.univ fun i : Fin 20 => (atPos ER (ownCell c i) (ownR i) ∅ 0 : sProp 𝕄) := by
  refine Entails.of_eq ?_
  rw [split20]
  refine congrArg₂ (fun a b : sProp 𝕄 => iprop(a ∗ b)) ?_ (congrArg₂ (fun a b : sProp 𝕄 => iprop(a ∗ b)) ?_ ?_)
  · exact bigSep_congr fun s _ => by
      rw [show ownR ⟨s.val, by omega⟩ = 2 from if_pos s.isLt]
  · exact bigSep_congr fun k _ => by
      rw [show ownR ⟨4 + k.val, by omega⟩ = 1 from if_neg (by show ¬ 4 + k.val < 4; omega), own_send]
  · exact bigSep_congr fun k _ => by
      rw [show ownR ⟨12 + k.val, by omega⟩ = 1 from if_neg (by show ¬ 12 + k.val < 4; omega), own_recv]

/-- What is left on a device once the kernel has run. -/
def left : sProp 𝕄 :=
  iprop((semVal (barCell c) 0 ∗ Pipeline.ownSems0 osem c) ∗ scratch c ∗ wholePts c main_arg0 (xs m c))

theorem leaving : iprop(ctx m K ∗ finished m c) ⊢ (|={Set.univ}=> iprop(left m c ∗ owing c 0 ∗ wholePts c cc0_stg0_0 (outC m c)) : sProp 𝕄) := by
  unfold finished left scratch
  rw [bigSep_congr (fun s _ => arrived_second m c s), x_cut, bigSep_sep', bigSep_sep']
  iintro ⟨#HC, HO, Hx, ⟨Hb, HaC, -⟩, HaB, Hs, Hr, HW, HaS, HaR⟩
  ihave HA := (positions (F := F) c) $$ [HaC HaS HaR]
  · iframe
  imod (closing m K c) $$ [HaB HA] with HV
  · isplitr; · iexact HC
    isplitl [HaB] <;> iassumption
  imodintro
  ihave Hb := (show (bigSep Finset.univ fun s : Fin 4 => (slotPts c s (bufC m c (secondOf s)) : sProp 𝕄)) ⊢ bigSep Finset.univ fun s : Fin 4 => iprop(∃ f, slotPts (F := F) c s f) from
    bigSep_mono fun s _ => (show (_ : sProp 𝕄) ⊢ _ from by iintro H; iexists _; iexact H)) $$ Hb
  ihave Hb := (slot_join c (bufC m c 0)) $$ Hb
  isplitr [HO HW]
  · isplitl [HV]; · iexact HV
    isplitr [Hx]
    · isplitl [Hb]; · iexact Hb
      isplitl [Hs]; · iexists _; iexact Hs
      iexists _; iexact Hr
    iexact Hx
  isplitl [HO] <;> iassumption

end Cert.KernelIdeal.Mean

end
-- ==== Proof.RegionBody.lean ====
/- The kernel's region: what it is entered with, what it leaves, and the run of its body. -/
module

public import proofs.«01_k».proof.Proof.Around
public import proofs.«01_k».proof.Proof.Gen.KernelIdeal.Points

@[expose] public section

noncomputable section

namespace Cert.KernelIdeal.Mean

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The buffers' contents around the region -/

/-- What a device's buffers hold at launch. -/
abbrev V₀ (c : Dev nD) : Valuation τ sig (Elt F) := fun b => m ((c : Dev nD), b)
/-- After the kernel: its result is written, nothing else changed. -/
abbrev V₁ (c : Dev nD) : Valuation τ sig (Elt F) := Function.update (V₀ m c) (Proc.devRef .tc main_v1) (outC m c)
theorem V₁_out (c : Dev nD) : V₁ m c main_v1 = outC m c := Function.update_self ..
theorem V₁_in (c : Dev nD) : V₁ m c main_arg0 = xs m c := Function.update_of_ne (by decide) ..
theorem V₁_res (c : Dev nD) : V₁ m c main_v2 = V₀ m c main_v2 := Function.update_of_ne (by decide) ..

/-- The buffers of the region that are no window's: the input, and the result's final buffer. -/
def others : Finset (DevRef τ sig) := {Proc.devRef .tc main_arg0, Proc.devRef .tc main_v2}

theorem others_eq (c : Dev nD) (W : Valuation τ sig (Elt F)) : (StableHlo.held (c : Thread nD τ) others W : sProp 𝕄)
    = iprop(wholePts c main_arg0 (W main_arg0) ∗ wholePts c main_v2 (W main_v2)) := by
  unfold StableHlo.held
  rw [bigSep_eq_bigSepL_of_eq [Proc.devRef .tc main_arg0, Proc.devRef .tc main_v2] (by decide) (by decide)]
  rfl

/-! ## The proof data -/

/-- What the body holds beside the result's staging buffer, before it runs and after. -/
def ready (c : Dev nD) : sProp 𝕄 :=
  iprop((Xk m c ∗ scratch c ∗ wholePts c main_arg0 (xs m c)) ∗ wholePts c main_v2 (V₀ m c main_v2) ∗ ∃ r, prngReg c r)
def over (c : Dev nD) : sProp 𝕄 := iprop(left m c ∗ wholePts c main_v2 (V₀ m c main_v2) ∗ ∃ r, prngReg c r)

/-- The region's data: its one window is the result. -/
def dat0 (c : Dev nD) : Pipeline.Dat τ (Elt F) Unit ℕ UU ℕ cfg0 c where
  A w := V₀ m c (Proc.devRef .tc (Pipeline.arrRef spec0 w))
  after := fun | 0 => fun _ => outC m c | ⟨_ + 1, h⟩ => absurd h (Nat.not_lt.2 (Nat.le_add_left _ _))
  Φ t := if t.val = 0 then ready m c else over m c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m
  | ⟨_ + 1, h⟩ => absurd h (Nat.not_lt.2 (Nat.le_add_left _ _))

theorem owed_first (c : Dev nD) : (dat0 (F := F) m c).owed t0_0.castSucc = O₀ c := by
  show (if (t0_0.castSucc : Fin (cfg0.N + 1)).val = 0 then O₀ c else 0) = O₀ c; exact if_pos rfl
theorem owed_zero (c : Dev nD) : (pdats (F := F) m 0 c).owed 0 = O₀ c := by
  show (if ((0 : Fin (cfg0.N + 1)).val = 0) then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]
theorem owed_after (c : Dev nD) : (dat0 (F := F) m c).owed t0_0.succ = 0 := by
  show (if (t0_0.succ : Fin (cfg0.N + 1)).val = 0 then O₀ c else 0) = 0; exact if_neg (by decide)

/-- Owing, in the pipeline's words. -/
theorem owing_in {cfg : Pipeline.Cfg sig Λ₀} {c : Dev nD} (dat : Dat τ (Elt F) Unit ℕ UU ℕ cfg c) (t : Fin (cfg.N + 1))
    (O : CellTallies nD τ sig Unit) (h : dat.owed t = O) (hr : dat.recorded t = Set.univ) : owing (F := F) c O ⊢ (dat.owesAt () t : sProp 𝕄) := by
  unfold owing Dat.owesAt Pipeline.owesWithin Dat.bound
  rw [h, hr]
  iintro ⟨%W, HO⟩
  iexists W
  isplitr; · ipureintro; exact fun _ _ => Or.inl trivial
  iexact HO
theorem owing_out {cfg : Pipeline.Cfg sig Λ₀} {c : Dev nD} (dat : Dat τ (Elt F) Unit ℕ UU ℕ cfg c) (t : Fin (cfg.N + 1))
    (O : CellTallies nD τ sig Unit) (h : dat.owed t = O) : (dat.owesAt () t : sProp 𝕄) ⊢ owing (F := F) c O := by
  unfold owing Dat.owesAt Pipeline.owesWithin
  rw [h]
  iintro ⟨%W, -, HO⟩
  iexists W; iexact HO

/-- The staging buffer of the result, owned at any contents. -/
theorem stage_eq (c : Dev nD) (f : S32x128.Idx → Elt F .f32) :
    (owns (c : Thread nD τ) (Memref.whole cc0_stg0_0 : Memref sig .tc .vmem S32x128 .f32) fullShare f : sProp 𝕄) = wholePts c cc0_stg0_0 f :=
  owns_whole (c : Thread nD τ) cc0_stg0_0 fullShare f

set_option maxHeartbeats 1000000 in
/-- The body's run, as the pipeline asks for it. -/
theorem body0 (c : Dev nD) : BodyObligation (dat0 (F := F) m c) defs₀ 𝒱₀ () Set.univ := fun t => by
  obtain rfl := fin_N0 t
  rw [bigSep_W0, bigSep_W0]
  rw [show (dat0 m c).Φ t0_0.castSucc = iprop((Xk m c ∗ scratch c ∗ wholePts c main_arg0 (xs m c)) ∗ wholePts c main_v2 (V₀ m c main_v2) ∗ ∃ r, prngReg c r) from rfl,
    show (dat0 m c).Φ t0_0.succ = iprop(left m c ∗ wholePts c main_v2 (V₀ m c main_v2) ∗ ∃ r, prngReg c r) from rfl]
  show iprop(_ ∗ _ ∗ ∃ d, owns (c : Thread nD τ) (Memref.whole cc0_stg0_0 : Memref sig .tc .vmem S32x128 .f32) fullShare ((dat0 m c).before 0 t0_0 d))
    ⊢ WP c (cc0_body (F := F) xM (Memref.isWhole_whole _) (Memref.whole cc0_stg0_0) (hstage0_0 0) bM (Memref.isWhole_whole _) cc0_scratch1 sM (Memref.isWhole_whole _) rM (Memref.isWhole_whole _) cc0_scratch4 cc0_scratch5)
      fun _ => iprop((left m c ∗ wholePts c main_v2 (V₀ m c main_v2) ∗ ∃ r, prngReg c r) ∗ (dat0 m c).owesAt () t0_0.succ
        ∗ owns (c : Thread nD τ) (Memref.whole cc0_stg0_0 : Memref sig .tc .vmem S32x128 .f32) fullShare (outC m c))
  iintro ⟨⟨⟨HX, Hs, Hx⟩, Hv, Hp⟩, HO, ⟨%d, HW⟩⟩
  ihave HO := (owing_out (dat0 m c) _ (O₀ c) (owed_first m c)) $$ HO
  ihave HW := (Entails.of_eq (stage_eq c ((dat0 m c).before 0 t0_0 d))) $$ HW
  ihave HB := (entering m c ((dat0 m c).before 0 t0_0 d)) $$ [HX Hs Hx HO HW]
  · iframe
  icases HB with ⟨%K, #HC, HB⟩
  iapply (kernel m K c ((dat0 m c).before 0 t0_0 d)) $$ [HB]
  · isplitr; · iexact HC
    iexact HB
  iintro HF
  imod (leaving m K c) $$ [HF] with ⟨HL, HO, HW⟩
  · isplitr; · iexact HC
    iexact HF
  imodintro
  isplitl [HL Hv Hp]
  · isplitl [HL]; · iexact HL
    isplitl [Hv] <;> iassumption
  isplitl [HO]; · iapply (owing_in (dat0 m c) t0_0.succ 0 (owed_after m c) rfl); iexact HO
  iapply (Entails.of_eq (stage_eq c (outC m c)).symm) $$ HW

end Cert.KernelIdeal.Mean

end
-- ==== Proof.Region.lean ====
/- The kernel's region as a segment of the program. -/
module

public import proofs.«01_k».proof.Proof.RegionBody
public import Idealize.ShloMosaic.Lib.Pipeline.RegionTalk
public import Idealize.ShloMosaic.Lib.Pipeline.ValueKit.Geometry

@[expose] public section

noncomputable section

namespace Cert.KernelIdeal.Mean

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Levels -/

theorem O₀_pos {c : Dev nD} {g : GSem nD τ sig} {u : Unit} (h : 0 < O₀ c g u) : (∃ k, g = recvCell (peer c) k) ∨ g = barCell (peer c) := by
  unfold O₀ at h
  rw [Pi.add_apply, Finsupp.add_apply] at h
  rcases Nat.add_pos_iff_pos_or_pos.mp h with h | h
  · exact .inl (debt_pos h)
  · rw [tallyAt_apply] at h
    split at h
    · next hg => exact .inr hg.1
    · exact absurd h (Nat.lt_irrefl 0)

/-- Whatever a device owes lies above the staging waits. -/
theorem cut_owed (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · rcases O₀_pos h with ⟨k, rfl⟩ | rfl
    · refine ⟨by rw [L_tc]; exact Finset.mem_singleton_self _, ?_⟩
      show 0 < lvOf (role (.dma (recvS k)))
      rw [role_recv]; exact Nat.zero_lt_succ 1
    · exact ⟨by rw [L_tc]; exact Finset.mem_singleton_self _, Nat.one_pos⟩
  · exact absurd h (Nat.lt_irrefl 0)

theorem cut : Pipeline.LevelCutOwed (pcfgs (F := F)) adm (pdats m) () L lv 0 (fun _ => 0) where
  hι := fun c w s => by rw [L_tc]; exact Finset.mem_singleton_self _
  hιb := fun c w s => by
    match w with
    | ⟨0, _⟩ =>
      match s with
      | ⟨0, _⟩ => exact le_refl 0
  hD := fun c t g i h => cut_owed m c t g i h

/-! ## The region's ends -/

theorem phi_first (c : Dev nD) : (pdats (F := F) m 0 c).Φ 0 = ready m c := by
  show (if ((0 : Fin (cfg0.N + 1)).val = 0) then ready m c else over m c) = _; exact if_pos rfl
theorem phi_last (c : Dev nD) : (pdats (F := F) m 0 c).Φ (Fin.last _) = over m c := by
  show (if (Fin.last cfg0.N).val = 0 then ready m c else over m c) = _
  rw [Fin.val_last, if_neg (by rw [show cfg0.N = 1 from N_0]; decide)]

theorem enters (c : Dev nD) : iprop(Pipeline.scopedRest (Pipeline.pin (pcfgs (F := F)) adm 0).spec c ∗ (∃ r, prngReg c r) ∗ StableHlo.held (c.tc : Thread nD τ) others (V₀ m c) ∗ Xk m c)
    ⊢ (pdats m 0 c).Φ 0 := by
  rw [phi_first, show (Pipeline.scopedRest (Pipeline.pin (pcfgs (F := F)) adm 0).spec c : sProp 𝕄) = scratch c from scopedRest0_eq c, others_eq]
  unfold ready
  iintro ⟨Hs, Hp, ⟨Hx, Hv⟩, HX⟩
  isplitl [Hs Hx HX]
  · isplitl [HX]; · iexact HX
    isplitl [Hs] <;> iassumption
  isplitl [Hv]; · iexact Hv
  iexact Hp

/-- What the region keeps beside its buffers: the barrier's counter, at zero. -/
def Yk (c : Dev nD) : sProp 𝕄 := semVal (barCell c) 0

theorem leaves (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) others (V₁ m c)
      ∗ Pipeline.ownSems0 osem c ∗ Yk c) := by
  rw [phi_last, show (Pipeline.scopedRest (Pipeline.pin (pcfgs (F := F)) adm 0).spec c : sProp 𝕄) = scratch c from scopedRest0_eq c, others_eq, V₁_in, V₁_res]
  unfold over left Yk
  iintro ⟨⟨⟨Hb, Ho⟩, Hs, Hx⟩, Hv, Hp⟩
  isplitl [Hs]; · iexact Hs
  isplitl [Hp]; · iexact Hp
  isplitl [Hx Hv]; · isplitl [Hx] <;> iassumption
  isplitl [Ho] <;> iassumption

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The result's array at the region's end. -/
theorem result_end (c : Dev nD) : (dat0 m c).arrAt 0 cfg0.N = outC m c :=
  (dat0 m c).arrAt_eq_of_after_last 0 t0_0 (by decide +kernel) (outC m c) (fun j => rfl)

set_option backward.isDefEq.respectTransparency.types false in
/-- The region. -/
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    others others (Finset.Subset.refl _) kit rfl (fun c => (body0 m c).loose)
    (fun _ => 0) O₀ (fun c => (owed_zero m c).trans (zero_add _).symm) (owed_last m) (fun _ => rfl) (fun _ w => by fin_cases w; rfl)
    (V₀ m) (V₁ m) (fun _ b hb => absurd hb (by rw [Finset.sdiff_self]; exact Finset.notMem_empty b))
    (Tk m) Yk (Xk m) Yk (opening m) (enters m) (leaves m)
    (fun c => by iintro H; imodintro; iexact H)
    (fun _ => 0) (cut m) (fun _ => iprop(emp))
    (fun c w => by fin_cases w; rfl) (fun c w => by fin_cases w; exact (result_end m c).trans (V₁_out m c).symm)

/-! ## The buffers as one -/

/-- The buffers the program's host operations may touch. -/
def bufs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

theorem bufs_eq (c : Dev nD) (W : Valuation τ sig (Elt F)) : (StableHlo.held (c : Thread nD τ) bufs W : sProp 𝕄)
    = iprop(wholePts c main_arg0 (W main_arg0) ∗ wholePts c main_v1 (W main_v1) ∗ wholePts c main_v2 (W main_v2)) := by
  unfold StableHlo.held
  rw [bigSep_eq_bigSepL_of_eq [Proc.devRef .tc main_arg0, Proc.devRef .tc main_v1, Proc.devRef .tc main_v2] (by decide) (by decide)]
  rfl

theorem array_eq (c : Dev nD) (W : Valuation τ sig (Elt F)) :
    (StableHlo.held (c.tc : Thread nD τ) (Pipeline.arrRefs (τ := τ) (pcfgs (F := F) 0).spec) W : sProp 𝕄) = wholePts c main_v1 (W main_v1) := by
  unfold StableHlo.held
  rw [show (Pipeline.arrRefs (τ := τ) (pcfgs (F := F) 0).spec) = {Proc.devRef .tc main_v1} from (by decide : Pipeline.arrRefs (τ := τ) spec0 = {Proc.devRef .tc main_v1}), bigSep_singleton]

/-- The buffers cut into the region's result and the others. -/
theorem bufs_cut (c : Dev nD) (W : Valuation τ sig (Elt F)) : (StableHlo.held (c : Thread nD τ) bufs W : sProp 𝕄)
    ⊢ iprop(StableHlo.held (c.tc : Thread nD τ) (Pipeline.arrRefs (τ := τ) (pcfgs (F := F) 0).spec) W ∗ StableHlo.held (c.tc : Thread nD τ) others W) := by
  rw [bufs_eq, array_eq, others_eq]
  iintro ⟨Hx, H1, H2⟩
  isplitl [H1]; · iexact H1
  isplitl [Hx] <;> iassumption
theorem bufs_join (c : Dev nD) (W : Valuation τ sig (Elt F)) :
    iprop(StableHlo.held (c.tc : Thread nD τ) (Pipeline.arrRefs (τ := τ) (pcfgs (F := F) 0).spec) W ∗ StableHlo.held (c.tc : Thread nD τ) others W)
      ⊢ (StableHlo.held (c : Thread nD τ) bufs W : sProp 𝕄) := by
  rw [bufs_eq, array_eq, others_eq]
  iintro ⟨H1, Hx, H2⟩
  isplitl [Hx]; · iexact Hx
  isplitl [H1] <;> iassumption

/-- What the launch hands the region beside the buffers, and what rides on after it. -/
def before (c : Dev nD) : sProp 𝕄 := iprop(Tk m c ∗ (∃ r, prngReg c r) ∗ owing c (O₀ c))
def after (c : Dev nD) : sProp 𝕄 := iprop(semVal (barCell c) 0 ∗ owing c 0)

theorem region_pre (c : Dev nD) : iprop(StableHlo.held (c : Thread nD τ) bufs (V₀ m c) ∗ before m c) ⊢ (region m).pre c := by
  show _ ⊢ iprop(StableHlo.held (c.tc : Thread nD τ) (Pipeline.arrRefs (τ := τ) (pcfgs (F := F) 0).spec) (V₀ m c) ∗ (∃ r, prngReg c r)
    ∗ (StableHlo.held (c.tc : Thread nD τ) others (V₀ m c) ∗ emp) ∗ Tk m c ∗ ∃ Wd, owes (c : Thread nD τ) (0 + O₀ c) Wd)
  rw [zero_add]
  unfold before owing
  iintro ⟨Hh, HT, Hp, HO⟩
  ihave Hh := (bufs_cut c (V₀ m c)) $$ Hh
  icases Hh with ⟨H1, Hh⟩
  isplitl [H1]; · iexact H1
  isplitl [Hp]; · iexact Hp
  isplitl [Hh]
  · isplitl [Hh]; · iexact Hh
    iempintro
  isplitl [HT] <;> iassumption

theorem region_post (c : Dev nD) : (region m).post c ⊢ iprop(StableHlo.held (c : Thread nD τ) bufs (V₁ m c) ∗ after (F := F) c) := by
  show iprop(StableHlo.held (c.tc : Thread nD τ) (Pipeline.arrRefs (τ := τ) (pcfgs (F := F) 0).spec) (V₁ m c) ∗ (∃ r, prngReg c r)
    ∗ (StableHlo.held (c.tc : Thread nD τ) others (V₁ m c) ∗ emp) ∗ Yk c ∗ ∃ Wd, owes (c : Thread nD τ) (0 : CellTallies nD τ sig Unit) Wd) ⊢ _
  unfold after Yk owing
  iintro ⟨H1, -, ⟨Hh, -⟩, Hb, HO⟩
  isplitl [H1 Hh]
  · iapply (bufs_join c (V₁ m c))
    isplitl [H1] <;> iassumption
  isplitl [Hb] <;> iassumption

end Cert.KernelIdeal.Mean

end
-- ==== Proof.Launch.lean ====
/- The launch: every cell's invariant, the tokens dealt to the devices that pay, and the credits. -/
module

public import proofs.«01_k».proof.Proof.Region
public import Idealize.ShloMosaic.Harness.Basic

@[expose] public section

noncomputable section

namespace Cert.KernelIdeal.Mean

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The cells -/

theorem osem_inj : Function.Injective osem := fun i j h => by
  have h' : (ownS i).val = (ownS j).val := congrArg Fin.val (SemLoc.dma.inj h)
  exact Fin.ext (by change 1 + i.val = 1 + j.val at h'; omega)

def barEmb : Dev nD ↪ GSem nD τ sig := ⟨barCell, fun _ _ h => congrArg (fun g : GSem nD τ sig => g.1.1) h⟩
def ownEmb : Dev nD × Fin 20 ↪ GSem nD τ sig :=
  ⟨fun p => ownCell p.1 p.2, fun _ _ h => Prod.ext (congrArg (fun g : GSem nD τ sig => g.1.1) h) (osem_inj (congrArg Prod.snd h))⟩

/-- The barrier cells have their counters at launch; the kernel's own cells get theirs when the region is entered. -/
abbrev barCells : Finset (GSem nD τ sig) := Finset.univ.map barEmb
abbrev ownCells : Finset (GSem nD τ sig) := Finset.univ.map ownEmb

theorem cells_disjoint : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  have h' : (SemLoc.dma (ownS p.2) : SemLoc sig) = .reg barS := congrArg Prod.snd h
  cases h'

/-! ## The tokens -/

/-- The payments on one device's cells: the barrier's, the copies', the sends', the receives'. -/
def paySem (i : Fin 25) : SemLoc sig :=
  if i.val = 0 then .reg barS
  else if h1 : i.val < 9 then .dma (copyS (slotOf ⟨i.val - 1, by omega⟩))
  else if h2 : i.val < 17 then .dma (sendS ⟨i.val - 9, by omega⟩)
  else .dma (recvS ⟨i.val - 17, by omega⟩)
def payRound (i : Fin 25) : ℕ := if 5 ≤ i.val ∧ i.val < 9 then 1 else 0
theorem pay_inj : Function.Injective (fun i : Fin 25 => (paySem i, payRound i)) := by decide +kernel

def payToks : Finset (GSem nD τ sig × ℕ × Unit) :=
  Finset.univ.map ⟨fun p : Dev nD × Fin 25 => (((p.1 : Thread nD τ), paySem p.2), payRound p.2, ()), fun _ _ h =>
    Prod.ext (congrArg (fun t : GSem nD τ sig × ℕ × Unit => t.1.1.1) h)
      (pay_inj (Prod.ext (congrArg (fun t : GSem nD τ sig × ℕ × Unit => t.1.2) h) (congrArg (fun t : GSem nD τ sig × ℕ × Unit => t.2.1) h)))⟩

theorem split25 (Φ : Fin 25 → sProp 𝕄) : bigSep Finset.univ Φ
    = iprop(Φ 0 ∗ (bigSep Finset.univ fun k : Fin 8 => Φ ⟨1 + k.val, by omega⟩) ∗ (bigSep Finset.univ fun k : Fin 8 => Φ ⟨9 + k.val, by omega⟩)
      ∗ bigSep Finset.univ fun k : Fin 8 => Φ ⟨17 + k.val, by omega⟩) := by
  rw [eight, eight, eight, bigSep_univ_eq_bigSepL [0, 1, 2, 3, 4, 5, 6, 7, 8, 9, 10, 11, 12, 13, 14, 15, 16, 17, 18, 19, 20, 21, 22, 23, 24] (by decide) (by decide) Φ]
  show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24)
    = iprop(Φ 0 ∗ (Φ 1 ∗ Φ 2 ∗ Φ 3 ∗ Φ 4 ∗ Φ 5 ∗ Φ 6 ∗ Φ 7 ∗ Φ 8) ∗ (Φ 9 ∗ Φ 10 ∗ Φ 11 ∗ Φ 12 ∗ Φ 13 ∗ Φ 14 ∗ Φ 15 ∗ Φ 16)
      ∗ Φ 17 ∗ Φ 18 ∗ Φ 19 ∗ Φ 20 ∗ Φ 21 ∗ Φ 22 ∗ Φ 23 ∗ Φ 24)
  refine BI.equiv_iff.mp ⟨?_, ?_⟩
  · show (_ : sProp 𝕄) ⊢ _
    iintro ⟨H0, H1, H2, H3, H4, H5, H6, H7, H8, H9, H10, H11, H12, H13, H14, H15, H16, H17, H18, H19, H20, H21, H22, H23, H24⟩; iframe
  · show (_ : sProp 𝕄) ⊢ _
    iintro ⟨H0, ⟨H1, H2, H3, H4, H5, H6, H7, H8⟩, ⟨H9, H10, H11, H12, H13, H14, H15, H16⟩, H17, H18, H19, H20, H21, H22, H23, H24⟩; iframe

/-- The tokens of the payments on a device's cells. -/
def tokensAt (c : Dev nD) : sProp 𝕄 :=
  iprop(dutyTok ER (barCell c) 0 () ∗ (bigSep Finset.univ fun k : Fin 8 => dutyTok ER (copyCell c (slotOf k)) (k.val / 4) ())
    ∗ (bigSep Finset.univ fun k : Fin 8 => dutyTok ER (sendCell c k) 0 ()) ∗ bigSep Finset.univ fun k : Fin 8 => dutyTok ER (recvCell c k) 0 ())

theorem pay_copy : ∀ k : Fin 8, paySem ⟨1 + k.val, by omega⟩ = .dma (copyS (slotOf k)) ∧ payRound ⟨1 + k.val, by omega⟩ = k.val / 4 := by decide +kernel
theorem pay_send : ∀ k : Fin 8, paySem ⟨9 + k.val, by omega⟩ = .dma (sendS k) ∧ payRound ⟨9 + k.val, by omega⟩ = 0 := by decide +kernel
theorem pay_recv : ∀ k : Fin 8, paySem ⟨17 + k.val, by omega⟩ = .dma (recvS k) ∧ payRound ⟨17 + k.val, by omega⟩ = 0 := by decide +kernel

theorem tokens_eq : bigSep payToks (fun x => (dutyTok ER x.1 x.2.1 x.2.2 : sProp 𝕄)) = bigSep Finset.univ fun c : Dev nD => tokensAt c := by
  unfold payToks
  rw [bigSep_map, bigSep_univ_prod]
  refine bigSep_congr fun c _ => ?_
  rw [split25]
  unfold tokensAt
  refine congrArg₂ (fun a b : sProp 𝕄 => iprop(a ∗ b)) rfl (congrArg₂ (fun a b : sProp 𝕄 => iprop(a ∗ b)) ?_ (congrArg₂ (fun a b : sProp 𝕄 => iprop(a ∗ b)) ?_ ?_))
  · refine bigSep_congr fun k _ => ?_
    show dutyTok ER ((c : Thread nD τ), paySem ⟨1 + k.val, by omega⟩) (payRound ⟨1 + k.val, by omega⟩) () = _
    rw [(pay_copy k).1, (pay_copy k).2]
  · refine bigSep_congr fun k _ => ?_
    show dutyTok ER ((c : Thread nD τ), paySem ⟨9 + k.val, by omega⟩) (payRound ⟨9 + k.val, by omega⟩) () = _
    rw [(pay_send k).1, (pay_send k).2]
  · refine bigSep_congr fun k _ => ?_
    show dutyTok ER ((c : Thread nD τ), paySem ⟨17 + k.val, by omega⟩) (payRound ⟨17 + k.val, by omega⟩) () = _
    rw [(pay_recv k).1, (pay_recv k).2]

/-- The barrier's and the receives' tokens go to the neighbour, who pays them. -/
theorem tokens_swap : (bigSep Finset.univ fun c : Dev nD => (tokensAt c : sProp 𝕄)) ⊢ bigSep Finset.univ fun c : Dev nD => toks c := by
  unfold tokensAt toks
  rw [bigSep_sep', bigSep_sep', bigSep_sep', bigSep_sep', bigSep_sep', bigSep_sep', bigSep_univ_equiv swap (fun c : Dev nD => (dutyTok ER (barCell c) 0 () : sProp 𝕄)),
    bigSep_univ_equiv swap (fun c : Dev nD => (bigSep Finset.univ fun k : Fin 8 => dutyTok ER (recvCell c k) 0 () : sProp 𝕄))]
  exact BI.Entails.refl _

/-! ## The credits -/

theorem peer_eq {d c : Dev nD} : peer d = c ↔ d = peer c :=
  ⟨fun h => by rw [← h, peer_peer], fun h => by rw [h, peer_peer]⟩

theorem recv_inj {d c : Dev nD} {j k : Fin 8} (h : recvCell d j = recvCell c k) : d = c ∧ j = k := by
  refine ⟨congrArg (fun g : GSem nD τ sig => g.1.1) h, ?_⟩
  have h' : (recvS j).val = (recvS k).val := congrArg Fin.val (SemLoc.dma.inj (congrArg Prod.snd h))
  exact Fin.ext (by change 13 + j.val = 13 + k.val at h'; omega)
theorem bar_ne_recv (d c : Dev nD) (k : Fin 8) : barCell d ≠ recvCell c k := fun h => by
  have h' : (SemLoc.reg barS : SemLoc sig) = .dma (recvS k) := congrArg Prod.snd h
  cases h'

theorem debt_at (d : Dev nD) (n : ℕ) (g : GSem nD τ sig) :
    debt d n g () = ∑ j : Fin 8, if n ≤ j.val ∧ recvCell (peer d) j = g then NX else 0 := by
  unfold debt
  rw [Finset.sum_apply, Finsupp.finset_sum_apply]
  refine Finset.sum_congr rfl fun j _ => ?_
  by_cases hj : n ≤ j.val
  · rw [if_pos hj, tallyAt_apply]
    by_cases hg : g = recvCell (peer d) j
    · rw [if_pos ⟨hg, rfl⟩, if_pos ⟨hj, hg.symm⟩]
    · rw [if_neg (fun h => hg h.1), if_neg (fun h => hg h.2.symm)]
  · rw [if_neg hj, if_neg (fun h => hj h.1)]; rfl

theorem owed_bar (d c : Dev nD) : O₀ d (barCell c) () = if d = peer c then 1 else 0 := by
  unfold O₀
  rw [Pi.add_apply, Finsupp.add_apply, debt_at, Finset.sum_eq_zero (fun j _ => if_neg fun h => bar_ne_recv _ _ _ h.2.symm), Nat.zero_add, tallyAt_apply]
  by_cases h : d = peer c
  · subst h; rw [peer_peer, if_pos ⟨rfl, rfl⟩, if_pos rfl]
  · rw [if_neg (fun h' => h (peer_eq.mp (congrArg (fun g : GSem nD τ sig => g.1.1) h'.1).symm)), if_neg h]

theorem owed_recv (d c : Dev nD) (k : Fin 8) : O₀ d (recvCell c k) () = if d = peer c then NX else 0 := by
  unfold O₀
  rw [Pi.add_apply, Finsupp.add_apply, tallyAt_ne_cell (bar_ne_recv _ _ _).symm, Finsupp.zero_apply, Nat.add_zero, debt_at]
  by_cases h : d = peer c
  · rw [if_pos h, Finset.sum_eq_single k]
    · rw [if_pos ⟨Nat.zero_le _, by rw [peer_eq.mpr h]⟩]
    · exact fun j _ hj => if_neg fun h' => hj (recv_inj h'.2).2
    · exact fun hk => absurd (Finset.mem_univ _) hk
  · rw [if_neg h]
    exact Finset.sum_eq_zero fun j _ => if_neg fun h' => h (peer_eq.mp (recv_inj h'.2).1)

theorem credit_at (g : GSem nD τ sig) (c : Dev nD) (n : ℕ) (h : ∀ d : Dev nD, O₀ d g () = if d = peer c then n else 0) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, Finset.sum_congr rfl fun d _ => h d, Finset.sum_ite_eq' Finset.univ (peer c) fun _ => n,
    if_pos (Finset.mem_univ _)]

def recvEmb : Fin 8 ↪ SemLoc sig := ⟨fun k => .dma (recvS k), fun j k h => (recv_inj (d := 0) (c := 0) (congrArg (fun s : SemLoc sig => (((0 : Dev nD) : Thread nD τ), s)) h)).2⟩

/-- What a device may expect of its neighbour. -/
theorem credits (c : Dev nD) : (Pipeline.launchCred O₀ c : sProp 𝕄) ⊢ dues c := by
  unfold Pipeline.launchCred dues
  rw [bigSep_univ_at _ (SemLoc.reg barS), credit_at (barCell c) c 1 (fun d => owed_bar d c)]
  refine sep_mono_right (show (_ : sProp 𝕄) ⊢ _ from Entails.trans (show (_ : sProp 𝕄) ⊢ _ from bigSep_subset (t := Finset.univ.map recvEmb) fun x hx => ?_) (Entails.of_eq ?_))
  · obtain ⟨k, -, rfl⟩ := Finset.mem_map.mp hx
    refine Finset.mem_erase.mpr ⟨fun h => ?_, Finset.mem_univ _⟩
    have h' : (SemLoc.dma (recvS k) : SemLoc sig) = .reg barS := h
    cases h'
  · rw [bigSep_map]
    exact bigSep_congr fun k _ => congrArg _ (credit_at (recvCell c k) c NX (fun d => owed_recv d c k))

end Cert.KernelIdeal.Mean

end
-- ==== Proof.Run.lean ====
/- The run of the whole program: every device ends with the means of its rows, and every counter at zero. -/
module

public import proofs.«01_k».proof.Proof.Launch
public import proofs.«01_k».proof.Proof.Gen.KernelIdeal.Frame
public import Idealize.ShloMosaic.Lib.StableHlo
public import Idealize.ShloMosaic.Lib.StableHlo.Run

@[expose] public section

noncomputable section

namespace Cert.KernelIdeal.Mean

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The host's reshape -/

theorem tail_sub : ∀ op ∈ (hostOps1 : List (HloOp τ sig (Elt F))), op.bufs ⊆ bufs := fun op h => by
  simp only [List.mem_singleton] at h; subst h
  show ({Proc.devRef .tc main_v1, Proc.devRef .tc main_v2} : Finset (DevRef τ sig)) ⊆ bufs
  decide
theorem tail_fresh : ∀ op ∈ (hostOps1 : List (HloOp τ sig (Elt F))), op.fresh = ∅ := fun op h => by
  simp only [List.mem_singleton] at h; subst h; rfl

/-- After the reshape. -/
abbrev V₂ (c : Dev nD) : Valuation τ sig (Elt F) := StableHlo.after hostOps1 (V₁ m c)

/-- The result in its final shape. -/
def resC (c : Dev nD) : S4096x1.Idx → Elt F .f32 := shapeCast S4096x1 (outC m c) shapeCasts_S32x128_S4096x1

theorem V₂_in (c : Dev nD) : V₂ m c main_arg0 = m ((c : Thread nD τ).loc main_arg0) := by
  show StableHlo.after hostOps1 (V₁ m c) (Proc.devRef .tc main_arg0) = _
  rw [StableHlo.after_cons, StableHlo.after_nil, StableHlo.reshape_result_ne (h := by decide)]
  exact V₁_in m c
theorem V₂_res (c : Dev nD) : V₂ m c main_v2 = resC m c := by
  show StableHlo.after hostOps1 (V₁ m c) (Proc.devRef .tc main_v2) = _
  rw [StableHlo.after_cons, StableHlo.after_nil, StableHlo.reshape_result, V₁_out]
  rfl

/-- The reshape as a segment. -/
def tail : Pipeline.HostSeg (Ix := Unit) (Name := ℕ) (U := UU) (Lvl := ℕ) (pcfgs (F := F)) defs₀ 𝒱₀ L lv :=
  Pipeline.HostSeg.ofOps _ _ _ _ _ bufs hostOps1 tail_sub tail_fresh (V₁ m) (after (F := F))

/-- The program: the region, then the reshape. -/
def segs : List (Pipeline.Seg (pcfgs (F := F)) adm (pdats m) () defs₀ 𝒱₀ L lv) := [.region (region m), .host (tail m)]

theorem main_eq (c : Dev nD) : main (F := F) c = Pipeline.Seg.run (segs m) :=
  main_segs adm (pdats m) () 𝒱₀ L lv (tail m) (region m) rfl c

/-! ## The launch's ghost state -/

def u₀ : UU :=
  (initOf (Pipeline.cells (Pipeline.pin (pcfgs (F := F)) adm) cellOf_inj) (Pipeline.launchToks (Pipeline.pin (pcfgs (F := F)) adm) cellOf_inj),
    launchOf barCells ownCells payToks)

/-- The launch's ghost state stands on the first device until it is dealt out. -/
def parked (c : Dev nD) : sProp 𝕄 := if c = 0 then BI.own (ER (launchOf barCells ownCells payToks)) else iprop(emp)
theorem parked_all : bigSep Finset.univ (parked (F := F)) = BI.own (ER (launchOf barCells ownCells payToks)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- What every device may consult: the invariants, and that the barriers' first round is reached. -/
def shared (κ : GSem nD τ sig → ℕ) : sProp 𝕄 := iprop(allInvs m κ ∗ bigSep barCells fun g => reached ER g 0)
instance shared_persistent (κ : GSem nD τ sig → ℕ) : BI.Persistent (shared m κ) := by unfold shared; infer_instance

theorem invs_intro (κ : GSem nD τ sig → ℕ) : (bigSep (barCells ∪ ownCells) fun g => (cellInv ER (sched m) (κ g) g : sProp 𝕄)) ⊢ allInvs m κ := by
  unfold allInvs
  rw [bigSep_union cells_disjoint, bigSep_map, bigSep_map]
  exact BI.Entails.refl _

/-- What only device `c` holds: its barrier's position, the rights to open its cells, the tokens of its payments. -/
def ownOnly (c : Dev nD) : sProp 𝕄 :=
  iprop(atPos ER (barCell c) 0 ∅ 0 ∗ (bigSep Finset.univ fun i : Fin 20 => openTok ER (ownCell c i)) ∗ toks c)

/-- The rest of a device's launch holdings. -/
def plain (c : Dev nD) : sProp 𝕄 :=
  iprop(StableHlo.held (c : Thread nD τ) bufs (V₀ m c) ∗ dues c ∗ owes (c : Thread nD τ) (O₀ c) ∅ ∗ ∃ r, prngReg c r)

theorem start_intro (κ : GSem nD τ sig → ℕ) (c : Dev nD) :
    iprop(shared m κ ∗ (ownOnly c ∗ plain m c)) ⊢ iprop(StableHlo.held (c : Thread nD τ) bufs (V₀ m c) ∗ before m c) := by
  unfold shared ownOnly plain before Tk owing
  iintro ⟨⟨#HI, #HR⟩, ⟨Ha, Ho, Ht⟩, Hh, Hd, HO, Hp⟩
  isplitl [Hh]; · iexact Hh
  isplitl [Ha Ho Ht Hd]
  · isplitr [Hd]
    · iexists κ
      isplitr; · iexact HI
      isplitl [Ha]; · iexact Ha
      isplitr
      · iapply (show (_ : sProp 𝕄) ⊢ _ from bigSep_elim (Finset.mem_map_of_mem barEmb (Finset.mem_univ (peer c))) (Φ := fun g : GSem nD τ sig => reached ER g 0)) $$ HR
      isplitl [Ho] <;> iassumption
    iexact Hd
  isplitl [Hp]; · iexact Hp
  iexists ∅; iexact HO

theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What the launch gives one device. -/
def given (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ parked c)

theorem given_split (c : Dev nD) : given m ρ c ⊢ (iprop(plain m c ∗ (semVal (barCell c) 0 ∗ parked c)) : sProp 𝕄) := by
  unfold given plain
  rw [show unscopedBufs c (fun b => m ((c : Thread nD τ).loc b)) = StableHlo.held (c : Thread nD τ) bufs (V₀ m c) from unscopedBufs_held c (V₀ m c),
    unscoped_sems]
  iintro ⟨Hh, Hb, HO, Hc, Hp, HG⟩
  ihave Hc := (credits c) $$ Hc
  isplitr [Hb HG]
  · isplitl [Hh]; · iexact Hh
    isplitl [Hc]; · iexact Hc
    isplitl [HO]; · iexact HO
    iexists (ρ c); iexact Hp
  isplitl [Hb] <;> iassumption

/-- The launch, from what every device is given to what every device starts with. -/
theorem init : iprop((bigSep Finset.univ (given m ρ)) ∗ levAts L lv)
    ⊢ (|={Set.univ}=> bigSep Finset.univ (fun c : Dev nD => iprop(StableHlo.held (c : Thread nD τ) bufs (V₀ m c) ∗ before m c)) : sProp 𝕄) := by
  iintro ⟨H, -⟩
  ihave H := (show bigSep Finset.univ (given m ρ) ⊢ (bigSep Finset.univ fun c : Dev nD => iprop(plain m c ∗ (semVal (barCell c) 0 ∗ parked c)) : sProp 𝕄) from
    bigSep_mono fun c _ => given_split m ρ c) $$ H
  ihave H := (Entails.of_eq (bigSep_sep' Finset.univ _ _)) $$ H
  icases H with ⟨HB, H⟩
  ihave H := (Entails.of_eq (bigSep_sep' Finset.univ _ _)) $$ H
  icases H with ⟨Hv, HG⟩
  ihave Hu := (Entails.of_eq (parked_all (F := F))) $$ HG
  ihave Hv := (show (bigSep Finset.univ fun c : Dev nD => (semVal (barCell c) 0 : sProp 𝕄)) ⊢ bigSep barCells fun g => semVal g 0 from
    Entails.of_eq (bigSep_map (s := Finset.univ) barEmb (Φ := fun g : GSem nD τ sig => (semVal g 0 : sProp 𝕄))).symm) $$ Hv
  imod (Rounds.fund_launch ER (sched m) cells_disjoint (fun g _ h => h) payToks) $$ [Hv Hu] with ⟨%κ, -, #HI, #HR, Ha, Ho, Ht⟩
  · isplitl [Hv] <;> iassumption
  imodintro
  ihave Ha := (show (bigSep barCells fun g => (atPos ER g 0 ∅ 0 : sProp 𝕄)) ⊢ bigSep Finset.univ fun c : Dev nD => atPos ER (barCell c) 0 ∅ 0 from
    Entails.of_eq (bigSep_map (s := Finset.univ) barEmb (Φ := fun g : GSem nD τ sig => (atPos ER g 0 ∅ 0 : sProp 𝕄)))) $$ Ha
  ihave Ho := (show (bigSep ownCells fun g => (openTok ER g : sProp 𝕄)) ⊢ bigSep Finset.univ fun c : Dev nD => bigSep Finset.univ fun i : Fin 20 => openTok ER (ownCell c i) from
    Entails.of_eq ((bigSep_map (s := Finset.univ) ownEmb (Φ := fun g : GSem nD τ sig => (openTok ER g : sProp 𝕄))).trans (bigSep_univ_prod _))) $$ Ho
  ihave Ht := (Entails.of_eq (tokens_eq (F := F))) $$ Ht
  ihave Ht := (tokens_swap (F := F)) $$ Ht
  iapply (bigSep_with_persistent (R := shared m κ) (Φ := fun c => iprop(ownOnly c ∗ plain m c)) fun c _ => start_intro m κ c)
  isplitr
  · unfold shared
    isplitr
    · iapply (invs_intro m κ) $$ HI
    iexact HR
  iapply (Entails.of_eq (bigSep_sep' Finset.univ _ _).symm)
  isplitr [HB]
  · unfold ownOnly
    iapply (Entails.of_eq (bigSep_sep' Finset.univ _ _).symm)
    isplitl [Ha]; · iexact Ha
    iapply (Entails.of_eq (bigSep_sep' Finset.univ _ _).symm)
    isplitl [Ho]; · iexact Ho
    iexact Ht
  iexact HB

/-! ## The run -/

theorem unscoped_bar : ∀ sm : SemLoc sig, sm.isScoped .tc = false → sm = .reg barS := by decide

set_option backward.isDefEq.respectTransparency.types false in
/-- From any memory and zero counters every execution ends, with the input as it was, the result the means, and every counter zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_v2) = resC m c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked) (u₀ := u₀ (F := F))
    (hu₀ := by
      unfold u₀
      iintro Hu
      ihave H := (ownU_pair _ _) $$ Hu
      icases H with ⟨HP, HX⟩
      imodintro
      isplitl [HP]; · iexact HP
      rw [parked_all]; iexact HX)
    (T₀ := fun c => iprop(StableHlo.held (c : Thread nD τ) bufs (V₀ m c) ∗ before m c))
    (Tₙ := fun c => iprop(StableHlo.held (c : Thread nD τ) bufs (V₂ m c) ∗ semVal (barCell c) 0))
    (hch := by
      refine ⟨fun c => region_pre m c, fun c => region_post m c, fun c => ?_⟩
      show iprop(StableHlo.held (c : Thread nD τ) bufs (V₂ m c) ∗ after c)
        ⊢ iprop((StableHlo.held (c : Thread nD τ) bufs (V₂ m c) ∗ semVal (barCell c) 0) ∗ ∃ W, owes (c : Thread nD τ) (0 : CellTallies nD τ sig Unit) W)
      unfold after owing
      iintro ⟨Hh, Hb, HO⟩
      isplitr [HO]
      · isplitl [Hh] <;> iassumption
      · iexact HO)
    (hinit := init m ρ)
    (QY := fun c s => (s.mem ((Memref.whole main_arg0).view.loc (c : Thread nD τ)) = V₂ m c main_arg0 ∧ s.mem ((Memref.whole main_v2).view.loc (c : Thread nD τ)) = V₂ m c main_v2)
      ∧ s.sem (barCell c) = 0)
    (hfin := fun c s' => by
      dsimp only
      rw [bufs_eq]
      iintro ⟨⟨⟨Hx, -, Hy⟩, Hb⟩, HSI⟩
      icombine HSI Hx gives %hx
      icombine HSI Hy gives %hy
      icombine HSI Hb gives %hb
      imodintro
      isplitr
      · ipureintro
        exact ⟨⟨Buf.eq_of_forall_mem_univ hx, Buf.eq_of_forall_mem_univ hy⟩, by simpa using hb⟩
      iexact HSI)
    (hQ := fun s h hs => ⟨fun c => by
        obtain ⟨⟨hx, hy⟩, -⟩ := h c
        rw [V₂_in] at hx; rw [V₂_res] at hy
        exact ⟨hx, hy⟩,
      sem_eq_zero hs fun c sm hsm => by
        obtain rfl := unscoped_bar sm hsm
        exact (h c).2⟩)

end Cert.KernelIdeal.Mean

end
-- ==== Proof.ValueKernel.lean ====
/- The kernel's result over exact values, read element by element: a chunk's payloads are sums of its rows, so a device's
   own part is the sums of its block's rows. -/
module

public import proofs.«01_k».proof.Proof.Run
public import Idealize.ShloMosaic.Lib.Pointwise
public import Idealize.ShloMosaic.Lib.Pointwise.IndexBridge

@[expose] public section

noncomputable section

namespace Cert.KernelIdeal.Mean

open Idealize.ShloMosaic Idealize.ShloMosaic.TcCoe
open Cert.KernelIdeal Cert.KernelIdeal.Gen

/-- A row of 1024 numbers, summed 128 lanes at a time, then over the lanes. -/
theorem sum_lanes (f : Fin 1024 → EReal) :
    ∑ l : Fin 128, ∑ t : Fin 8, f ⟨128 * t.val + l.val, by omega⟩ = ∑ n : Fin 1024, f n := by
  rw [Finset.sum_comm, ← Fintype.sum_prod_type']
  exact Fintype.sum_equiv finProdFinEquiv _ _ fun p => congrArg f (Fin.ext (Nat.add_comm _ _))

/-- The eight lane groups of a chunk's row, added. -/
theorem pay1_apply (v : Vec Ideal S1x512x1024 .f32) (a : Fin 512) (l : Fin 128) :
    k0_pay1 v (ix2 a l) = ∑ t : Fin 8, v (ix3 (n0 := 1) 0 a (⟨128 * t.val + l.val, by omega⟩ : Fin 1024)) := by
  rw [Fin.sum_univ_eight]
  pointwise [k0_pay1]

/-- Row `i` of a chunk's sums: at lane `b`, the sum of the chunk's row `128 i + b`. -/
theorem rowOf_apply (i : Fin 4) (v : Vec Ideal S1x512x1024 .f32) (b : Fin 128) :
    rowOf i v (ix2 (n0 := 1) 0 b) = ∑ n : Fin 1024, v (ix3 (n0 := 1) 0 (⟨128 * i.val + b.val, by omega⟩ : Fin 512) n) := by
  rw [← sum_lanes]
  match i with
  | ⟨0, _⟩ => pointwise [rowOf, k0_pay2, pay1_apply]
  | ⟨1, _⟩ => pointwise [rowOf, k0_pay4, k0_pay3, pay1_apply]
  | ⟨2, _⟩ => pointwise [rowOf, k0_pay5, pay1_apply]
  | ⟨3, _⟩ => pointwise [rowOf, k0_pay6, pay1_apply]

variable (m : (ℓ : Loc nD τ sig) → Buf (Elt Ideal) ℓ)

/-- A chunk's element is the block's, 512 rows further down for each chunk before it. -/
theorem chunk_apply (c : Dev nD) (k : Fin 8) (a : Fin 512) (n : Fin 1024) :
    chunk m c k (ix3 (n0 := 1) 0 a n) = xs m c (ix2 (⟨512 * k.val + a.val, by omega⟩ : Fin 4096) n) := by
  show xs m c ((chunkR k).emb _) = _
  refine congrArg _ (funext fun d => ?_)
  match d with
  | ⟨0, _⟩ => exact Fin.ext (by simp [Rect.emb_apply])
  | ⟨1, _⟩ => exact Fin.ext (by simp [Rect.emb_apply])

/-- A device's own part: the sum of each row of its block. -/
theorem part_apply (c : Dev nD) (a : Fin 32) (b : Fin 128) :
    part m c (ix2 a b) = ∑ n : Fin 1024, xs m c (ix2 (⟨128 * a.val + b.val, by omega⟩ : Fin 4096) n) := by
  show rowOf _ (chunk m c _) (ValueIdx.ix2 0 b) = _
  rw [← ix2_eq_valueIdx, rowOf_apply]
  refine Finset.sum_congr rfl fun n _ => ?_
  rw [chunk_apply]
  refine congrArg (fun r => xs m c (ix2 r n)) (Fin.ext ?_)
  show 512 * (a.val / 4) + (128 * (a.val % 4) + b.val) = 128 * a.val + b.val
  omega

/-- The kernel's result on a device, row by row: its block's row and its neighbour's, summed and scaled. -/
theorem res_apply (c : Dev nD) (r : Fin 4096) (z : Fin 1) :
    resC m c (ix2 r z) = ((∑ n : Fin 1024, xs m c (ix2 r n)) + ∑ n : Fin 1024, xs m (peer c) (ix2 r n))
      * Ideal.ofBits .f32 0x3A000000#32 := by
  pointwise [resC, outC, k0_pay49, part_apply]
  simp only [Nat.div_add_mod]

end Cert.KernelIdeal.Mean

end
-- ==== Proof.ValueMean.lean ====
/- The kernel against the reference over exact values: what each device ends with is its block of the reference's means. -/
module

public import proofs.«01_k».proof.Proof.ValueKernel
public import proofs.«01_k».proof.Proof.Gen.ReferenceIdeal.Run

@[expose] public section

noncomputable section

namespace Cert.KernelIdeal.Mean

open Idealize.ShloMosaic Idealize.ShloMosaic.TcCoe
open Cert.KernelIdeal Cert.KernelIdeal.Gen

/-- The reference's result for an input. -/
abbrev means (x : (⟨2, ![8192, 2048]⟩ : Shape).Idx → EReal) : (⟨2, ![8192, 1]⟩ : Shape).Idx → EReal :=
  Host.divf (F := Ideal) (φ := .f32)
    (broadcastInDim Cert.ReferenceIdeal.S8192x1 ![0] Cert.ReferenceIdeal.Gen.facts.bcast_S8192_S8192x1_0
      (Host.reduceAdd (F := Ideal) (φ := .f32) x (constant Cert.ReferenceIdeal.S_ .f32 0x00000000#32)
        Cert.ReferenceIdeal.Gen.facts.reducesTo_S8192x2048_S8192_d1 Cert.ReferenceIdeal.Gen.facts.h_S_))
    (broadcastInDim Cert.ReferenceIdeal.S8192x1 ![] Cert.ReferenceIdeal.Gen.facts.bcast_S_S8192x1
      (constant Cert.ReferenceIdeal.S_ .f32 0x45000000#32))

/-- The kernel's scale is the reciprocal of the row's length, -/
theorem scale_eq : Ideal.ofBits .f32 0x3A000000#32 = ((1 / 2048 : ℝ) : EReal) := by
  simp [Ideal.ofBits, Ideal.ieee, -EReal.coe_mul]; norm_num

/-- the reference's divisor. -/
theorem length_eq : Ideal.ofBits .f32 0x45000000#32 = ((2048 : ℝ) : EReal) := by
  simp [Ideal.ofBits, Ideal.ieee, -EReal.coe_mul]; norm_num

/-- The reference's result at a row: the row's sum, scaled as the kernel scales it. -/
theorem means_apply (x : (⟨2, ![8192, 2048]⟩ : Shape).Idx → EReal) (r : Fin 8192) (z : Fin 1) :
    means x (ix2 r z) = (∑ n : Fin 2048, x (ix2 r n)) * Ideal.ofBits .f32 0x3A000000#32 := by
  rw [scale_eq, ← Ideal.div_coe (by norm_num : (2048 : ℝ) ≠ 0), ← length_eq]
  pointwise [means]

/-- A row of the whole input, as its two halves. -/
theorem sum_halves (f : Fin 2048 → EReal) :
    ∑ n : Fin 2048, f n
      = (∑ n : Fin 1024, f ⟨n.val, by omega⟩) + ∑ n : Fin 1024, f ⟨1024 + n.val, by omega⟩ :=
  Fin.sum_univ_add (a := 1024) (b := 1024) f

/-- A device's block, by coordinates. -/
theorem block_in (x : (⟨2, ![8192, 2048]⟩ : Shape).Idx → EReal) (c : Dev nD) (r : Fin 4096) (n : Fin 1024) :
    Layout.blockN ⟨2, ![4096, 1024]⟩ ⟨2, ![8192, 2048]⟩ (Layout.meshBlock [2, 2] ![[0], [1]] c) x (by decide) (ix2 r n)
      = x (ix2 (⟨4096 * (c.val / 2) + r.val, by have h : c.val < 4 := c.isLt; omega⟩ : Fin 8192)
          (⟨1024 * (c.val % 2) + n.val, by omega⟩ : Fin 2048)) := by
  rw [Layout.blockN_apply]
  refine congrArg x (funext fun d => Fin.ext ?_)
  match d with
  | ⟨0, _⟩ =>
    show (c.val / 2 % 2 * 1 + 0) * 4096 + r.val = 4096 * (c.val / 2) + r.val
    have h : c.val < 4 := c.isLt
    omega
  | ⟨1, _⟩ =>
    show (c.val / 1 % 2 * 1 + 0) * 1024 + n.val = 1024 * (c.val % 2) + n.val
    omega

/-- A device's part of the result, by its row. -/
theorem block_out (y : (⟨2, ![8192, 1]⟩ : Shape).Idx → EReal) (c : Dev nD) (r : Fin 4096) (z : Fin 1) :
    Layout.blockN ⟨2, ![4096, 1]⟩ ⟨2, ![8192, 1]⟩ (Layout.meshBlock [2, 2] ![[0], []] c) y (by decide) (ix2 r z)
      = y (ix2 (⟨4096 * (c.val / 2) + r.val, by have h : c.val < 4 := c.isLt; omega⟩ : Fin 8192) z) := by
  rw [Layout.blockN_apply]
  refine congrArg y (funext fun d => Fin.ext ?_)
  match d with
  | ⟨0, _⟩ =>
    show (c.val / 2 % 2 * 1 + 0) * 4096 + r.val = 4096 * (c.val / 2) + r.val
    have h : c.val < 4 := c.isLt
    omega
  | ⟨1, _⟩ =>
    show 0 * 1 + z.val = z.val
    omega

/-- Where every device holds its block of `x`, it ends with its part of the means of `x`. -/
theorem res_eq (m : (ℓ : Loc nD τ sig) → Buf (Elt Ideal) ℓ) (x : (⟨2, ![8192, 2048]⟩ : Shape).Idx → EReal)
    (hx : ∀ c : Dev nD, xs m c
      = Layout.blockN ⟨2, ![4096, 1024]⟩ ⟨2, ![8192, 2048]⟩ (Layout.meshBlock [2, 2] ![[0], [1]] c) x) (c : Dev nD) :
    resC m c = Layout.blockN ⟨2, ![4096, 1]⟩ ⟨2, ![8192, 1]⟩ (Layout.meshBlock [2, 2] ![[0], []] c) (means x) := by
  funext j
  obtain ⟨r, z, rfl⟩ : ∃ (r : Fin 4096) (z : Fin 1), j = ix2 r z := ⟨j 0, j 1, eq_ix2 j⟩
  rw [block_out, means_apply, res_apply, sum_halves]
  simp only [hx, block_in]
  refine congrArg (· * _) ?_
  have h : c.val < 4 := c.isLt
  have hp : (peer c).val = 2 * (c.val / 2) + 1 - c.val % 2 := rfl
  have he : ∀ (a a' : Fin 8192) (b b' : Fin 2048), a.val = a'.val → b.val = b'.val → x (ix2 a b) = x (ix2 a' b') :=
    fun _ _ _ _ ha hb => congrArg₂ (fun a b => x (ix2 a b)) (Fin.ext ha) (Fin.ext hb)
  rcases Nat.mod_two_eq_zero_or_one c.val with h2 | h2
  · refine congrArg₂ (· + ·) (Finset.sum_congr rfl fun n _ => he _ _ _ _ ?_ ?_) (Finset.sum_congr rfl fun n _ => he _ _ _ _ ?_ ?_) <;>
      dsimp only <;> omega
  · rw [add_comm]
    refine congrArg₂ (· + ·) (Finset.sum_congr rfl fun n _ => he _ _ _ _ ?_ ?_) (Finset.sum_congr rfl fun n _ => he _ _ _ _ ?_ ?_) <;>
      dsimp only <;> omega

end Cert.KernelIdeal.Mean

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.ValueMean
public import Idealize.ShloMosaic.Lib.Quiescent
public import Idealize.ShloMosaic.Adequacy
public import Idealize.ShloMosaic.Init

@[expose] public section

noncomputable section

namespace Cert.Proof

open Idealize.ShloMosaic Idealize.SL.Sem

/-- The kernel over exact values. -/
theorem frame_ideal : Cert.quiescent_KernelIdeal := fun m ρ _ =>
  (θ_run Cert.KernelIdeal.defs _ _).mono (fun _ h => ⟨fun c => (h.1 c).1, h.2⟩) (Cert.KernelIdeal.Mean.run_main (F := Ideal) m ρ)

/-- The two programs have one text. -/
theorem same_text : Cert.Kernel.defs (F := Bits) = Cert.KernelIdeal.defs (F := Bits) := by chain_rfl

/-- The kernel as given: the run is proved for any float values. -/
theorem frame_kernel : Cert.quiescent_Kernel := fun m ρ _ => by
  rw [same_text]
  exact (θ_run Cert.KernelIdeal.defs (onTc (τ := Cert.KernelIdeal.τ) (Cert.KernelIdeal.main (F := Bits))) ⟨m, fun _ => 0, ρ⟩).mono
    (fun _ h => ⟨fun c => (h.1 c).1, h.2⟩) (Cert.KernelIdeal.Mean.run_main (F := Bits) m ρ)

/-- The reference has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's, device by device. -/
theorem algebraic_mean : Cert.algebraic_KernelIdeal_ReferenceIdeal := fun m g m' g' _ hx =>
  ⟨Cert.KernelIdeal.Mean.means (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).2.trans (Cert.KernelIdeal.Mean.res_eq m _ hx c), (h.1 c).1⟩)
      (Cert.KernelIdeal.Mean.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_kernel, frame_ideal, frame_reference, trivial, algebraic_mean⟩

end Cert.Proof

end
